-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_pool_input_finite [hPre_pool_input_finite : Cert.Pre_pool_input_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_pool_input_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_pool_input_finite [hPre_pool_input_finite : Cert.Pre_pool_input_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_pool_input_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_pool_input_finite [hKernel4Ideal : Cert.Kernel4Ideal.Facts] [hPre_pool_input_finite : Cert.Pre_pool_input_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_pool_input_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_pool_input_finite [hReference4Ideal : Cert.Reference4Ideal.Facts] [hPre_pool_input_finite : Cert.Pre_pool_input_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_pool_input_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v21) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_pool_input_finite [hKernel4Ideal : Cert.Kernel4Ideal.Facts] [hReference4Ideal : Cert.Reference4Ideal.Facts] [hPre_pool_input_finite : Cert.Pre_pool_input_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_pool_input_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v127) = v1 c
          ∧ r.2.mem ((c.tc : Thread Cert.Reference4Ideal.nD Cert.Reference4Ideal.τ).loc Cert.Reference4Ideal.main_v131) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_pool_input_finite : Cert.Pre_pool_input_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_pool_input_finite (hKernel4Ideal := hKernel4Ideal) (hPre_pool_input_finite := hPre_pool_input_finite)
    ∧ quiescent_Reference4Ideal (hReference4Ideal := hReference4Ideal)
    ∧ quiescent_Reference4Ideal_pre_pool_input_finite (hReference4Ideal := hReference4Ideal) (hPre_pool_input_finite := hPre_pool_input_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_pool_input_finite (hKernel4Ideal := hKernel4Ideal) (hReference4Ideal := hReference4Ideal) (hPre_pool_input_finite := hPre_pool_input_finite)
    ∧ preserves_Kernel5_Kernel5Ideal
    ∧ algebraic_Kernel5Ideal_Reference5Ideal (hKernel5Ideal := hKernel5Ideal) (hReference5Ideal := hReference5Ideal)
-- ==== Pre_pool_input_finite.lean ====
abbrev S4096x1024 : Shape := ⟨2, ![4096, 1024]⟩
abbrev S4096x512 : Shape := ⟨2, ![4096, 512]⟩
abbrev S4096x3072 : Shape := ⟨2, ![4096, 3072]⟩
abbrev S1x256x512 : Shape := ⟨3, ![1, 256, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x1024 .f32) (main_arg1 : FVec F S4096x512 .f32) (main_arg2 : FVec F S4096x1024 .bf16) (main_arg3 : FVec F S4096x512 .bf16) (main_arg4 : FVec F S4096x3072 .f32) (main_arg5 : FVec F S1x256x512 .bf16) (main_arg6 : FVec F S1x256x512 .bf16) (main_arg7 : FVec F S4x128x128 .f32) (main_arg8 : FVec F S512 .f32) (main_arg9 : FVec F S512x1024 .f32) (main_arg10 : FVec F S1024x1024 .f32) (main_arg11 : FVec F S512x1024 .f32) (main_arg12 : FVec F S1024x1024 .f32) (main_arg13 : FVec F S1024 .f32) (main_arg14 : FVec F S1024x2048 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x1024 : Shape := ⟨2, ![4096, 1024]⟩
abbrev S4096x128 : Shape := ⟨2, ![4096, 128]⟩
abbrev S4096 : Shape := ⟨1, ![4096]⟩
abbrev S16 : Shape := ⟨1, ![16]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x1 : Shape := ⟨2, ![4096, 1]⟩
abbrev S128x1024 : Shape := ⟨2, ![128, 1024]⟩
abbrev S128x128 : Shape := ⟨2, ![128, 128]⟩
abbrev S128x1 : Shape := ⟨2, ![128, 1]⟩
abbrev S256x128 : Shape := ⟨2, ![256, 128]⟩
abbrev S128x256 : Shape := ⟨2, ![128, 256]⟩
abbrev S1 : Shape := ⟨1, ![1]⟩

abbrev nBuf : Space → Nat
  | .hbm => 19
  | .vmem => 17
  | .smem => 1
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .bf16⟩
  | .hbm, ⟨3, _⟩ => ⟨S4096, .i32⟩
  | .hbm, ⟨4, _⟩ => ⟨S16, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S4x32, .f32⟩
  | .hbm, ⟨15, _⟩ => ⟨S128, .f32⟩
  | .hbm, ⟨16, _⟩ => ⟨S1x128, .f32⟩
  | .hbm, ⟨17, _⟩ => ⟨S4096x1, .i32⟩
  | .hbm, ⟨18, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1, .i32⟩
  | .local _ .vmem, ⟨11, _⟩ => ⟨S128x1, .i32⟩
  | .local _ .vmem, ⟨12, _⟩ => ⟨S128x1, .i32⟩
  | .local _ .vmem, ⟨13, _⟩ => ⟨S128x1, .i32⟩
  | .local _ .vmem, ⟨14, _⟩ => ⟨S1x128, .f32⟩
  | .local _ .vmem, ⟨15, _⟩ => ⟨S128x1024, .bf16⟩
  | .local _ .vmem, ⟨16, _⟩ => ⟨S128x1024, .bf16⟩
  | .local _ .smem, ⟨0, _⟩ => ⟨S16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x128 : Shape := ⟨2, ![4096, 128]⟩
abbrev S4096 : Shape := ⟨1, ![4096]⟩
abbrev S16 : Shape := ⟨1, ![16]⟩
abbrev S4096x16x64 : Shape := ⟨3, ![4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S4096x2x64 : Shape := ⟨3, ![4096, 2, 64]⟩
abbrev S4096x2x32 : Shape := ⟨3, ![4096, 2, 32]⟩
abbrev S32x128x2x8x64 : Shape := ⟨5, ![32, 128, 2, 8, 64]⟩
abbrev S32x128x2x64 : Shape := ⟨4, ![32, 128, 2, 64]⟩
abbrev S33x128x2x64 : Shape := ⟨4, ![33, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x128, .f32⟩
  | 2 => ⟨S4096x128, .bf16⟩
  | 3 => ⟨S4096, .i32⟩
  | 4 => ⟨S16, .f32⟩
  | 5 => ⟨S4096x16x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S4096, .f32⟩
  | 15 => ⟨S4096x1, .f32⟩
  | 16 => ⟨S1x32, .f32⟩
  | 17 => ⟨S4096x32, .f32⟩
  | 18 => ⟨S4096x32, .f32⟩
  | 19 => ⟨S4096x32, .f32⟩
  | 20 => ⟨S4096x32, .f32⟩
  | 21 => ⟨S4096x1x32, .f32⟩
  | 22 => ⟨S4096x32, .f32⟩
  | 23 => ⟨S4096x1x32, .f32⟩
  | 24 => ⟨S4096x16x32, .f32⟩
  | 25 => ⟨S4096x16x32, .f32⟩
  | 26 => ⟨S4096x16x32, .f32⟩
  | 27 => ⟨S4096x16x32, .f32⟩
  | 28 => ⟨S4096x16x32, .f32⟩
  | 29 => ⟨S4096x16x32, .f32⟩
  | 30 => ⟨S4096x16x32, .f32⟩
  | 31 => ⟨S4096x16x32, .f32⟩
  | 32 => ⟨S4096x16x32, .f32⟩
  | 33 => ⟨S4096x16x32, .f32⟩
  | 34 => ⟨S4096x16x32, .f32⟩
  | 35 => ⟨S4096x16x32, .f32⟩
  | 36 => ⟨S4096x16x64, .f32⟩
  | 37 => ⟨S4096x2x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S4096x1x32, .f32⟩
  | 54 => ⟨S4096x32, .f32⟩
  | 55 => ⟨S4096x1x32, .f32⟩
  | 56 => ⟨S4096x2x32, .f32⟩
  | 57 => ⟨S4096x2x32, .f32⟩
  | 58 => ⟨S4096x2x32, .f32⟩
  | 59 => ⟨S4096x2x32, .f32⟩
  | 60 => ⟨S4096x2x32, .f32⟩
  | 61 => ⟨S4096x2x32, .f32⟩
  | 62 => ⟨S4096x2x32, .f32⟩
  | 63 => ⟨S4096x2x32, .f32⟩
  | 64 => ⟨S4096x2x32, .f32⟩
  | 65 => ⟨S4096x2x32, .f32⟩
  | 66 => ⟨S4096x2x32, .f32⟩
  | 67 => ⟨S4096x2x32, .f32⟩
  | 68 => ⟨S4096x2x64, .f32⟩
  | 69 => ⟨S4096x128, .f32⟩
  | 70 => ⟨S4096x2x64, .f32⟩
  | 71 => ⟨S32x128x2x8x64, .f32⟩
  | 72 => ⟨S32x128x2x64, .f32⟩
  | 73 => ⟨S_, .i32⟩
  | 74 => ⟨S_, .f32⟩
  | 75 => ⟨S33x128x2x64, .f32⟩
  | 76 => ⟨S32x128x2x64, .f32⟩
  | 77 => ⟨S32x256x2x64, .f32⟩
  | 78 => ⟨S32x128x2x64, .f32⟩
  | 79 => ⟨S_, .i32⟩
  | 80 => ⟨S_, .f32⟩
  | 81 => ⟨S33x128x2x64, .f32⟩
  | 82 => ⟨S32x128x2x64, .f32⟩
  | 83 => ⟨S32x256x2x64, .f32⟩
  | 84 => ⟨S32x2x256x128x8, .f32⟩
  | 85 => ⟨S32x2x8x128x256, .f32⟩
  | 86 => ⟨S_, .f32⟩
  | 87 => ⟨S32x2x8x128x256, .f32⟩
  | 88 => ⟨S32x2x8x128x256, .f32⟩
  | 89 => ⟨S128, .i32⟩
  | 90 => ⟨S128x1, .i32⟩
  | 91 => ⟨S_, .i32⟩
  | 92 => ⟨S128x1, .i32⟩
  | 93 => ⟨S128x1, .i32⟩
  | 94 => ⟨S256, .i32⟩
  | 95 => ⟨S1x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .i32⟩
  | 103 => ⟨S128x256, .i32⟩
  | 104 => ⟨S128x256, .i1⟩
  | 105 => ⟨S128x256, .i1⟩
  | 106 => ⟨S32, .i32⟩
  | 107 => ⟨S32x1x1, .i32⟩
  | 108 => ⟨S_, .i32⟩
  | 109 => ⟨S32x1x1, .i32⟩
  | 110 => ⟨S32x1x1, .i1⟩
  | 111 => ⟨S1x1x256, .i32⟩
  | 112 => ⟨S_, .i32⟩
  | 113 => ⟨S1x1x256, .i32⟩
  | 114 => ⟨S1x1x256, .i1⟩
  | 115 => ⟨S32x1x256, .i1⟩
  | 116 => ⟨S32x1x256, .i1⟩
  | 117 => ⟨S32x1x256, .i1⟩
  | 118 => ⟨S1x128x256, .i1⟩
  | 119 => ⟨S32x128x256, .i1⟩
  | 120 => ⟨S32x128x256, .i1⟩
  | 121 => ⟨S32x128x256, .i1⟩
  | 122 => ⟨S32x1x1x128x256, .i1⟩
  | 123 => ⟨S_, .f32⟩
  | 124 => ⟨S_, .f32⟩
  | 125 => ⟨S32x2x8x128x256, .i1⟩
  | 126 => ⟨S32x2x8x128x256, .f32⟩
  | 127 => ⟨S32x2x8x128x256, .f32⟩
  | _ => ⟨S4096x1024, .f32⟩

abbrev hbmTy0_1 (i : Nat) : BufTy := match i % 128 with
  | 0 => ⟨S2x8, .f32⟩
  | 1 => ⟨S1x2x8x1x1, .f32⟩
  | 2 => ⟨S_, .f32⟩
  | 3 => ⟨S32x2x8x128, .f32⟩
  | 4 => ⟨S32x2x8x128x1, .f32⟩
  | 5 => ⟨S32x2x8x128x1, .f32⟩
  | 6 => ⟨S32x2x8x128x1, .f32⟩
  | 7 => ⟨S32x2x8x128x256, .f32⟩
  | 8 => ⟨S32x2x8x128x256, .f32⟩
  | 9 => ⟨S32x2x8x128x256, .f32⟩
  | 10 => ⟨S_, .f32⟩
  | 11 => ⟨S32x2x8x128, .f32⟩
  | 12 => ⟨S32x2x8x128x1, .f32⟩
  | 13 => ⟨S32x2x8x128x1, .f32⟩
  | 14 => ⟨S32x2x8x128x1, .f32⟩
  | 15 => ⟨S32x2x8x128x1, .f32⟩
  | 16 => ⟨S32x2x8x128x1, .f32⟩
  | 17 => ⟨S32x2x8x128x256, .f32⟩
  | 18 => ⟨S32x2x8x128x256, .f32⟩
  | 19 => ⟨S32x2x64x8x128, .f32⟩
  | 20 => ⟨S32x128x2x8x64, .f32⟩
  | 21 => ⟨S4096x1024, .f32⟩
  | 22 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c : Ref sig .tc := ⟨.hbm, 73, rfl⟩
abbrev main_call0_v0 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_c_3 : Ref sig .tc := ⟨.hbm, 79, rfl⟩
abbrev main_call1_v0 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_4 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_c_5 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_c_6 : Ref sig .tc := ⟨.hbm, 99, rfl⟩
abbrev main_v84 : Ref sig .tc := ⟨.hbm, 100, rfl⟩
abbrev main_v85 : Ref sig .tc := ⟨.hbm, 101, rfl⟩
abbrev main_c_7 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_c_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_c_9 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_10 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_11 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_12 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5376 : Shape := ⟨2, ![1024, 5376]⟩
abbrev S1x1024 : Shape := ⟨2, ![1, 1024]⟩
abbrev S4096x512 : Shape := ⟨2, ![4096, 512]⟩
abbrev S4096x128 : Shape := ⟨2, ![4096, 128]⟩
abbrev S4096x3072 : Shape := ⟨2, ![4096, 3072]⟩
abbrev S256x1024 : Shape := ⟨2, ![256, 1024]⟩
abbrev S256x512 : Shape := ⟨2, ![256, 512]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S1024x128 : Shape := ⟨2, ![1024, 128]⟩
abbrev S1024x3072 : Shape := ⟨2, ![1024, 3072]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5376, .f32⟩
  | .hbm, ⟨3, _⟩ => ⟨S1x1024, .f32⟩
  | .hbm, ⟨4, _⟩ => ⟨S1024x5376, .bf16⟩
  | .hbm, ⟨5, _⟩ => ⟨S4096x512, .f32⟩
  | .hbm, ⟨6, _⟩ => ⟨S4096x1024, .f32⟩
  | .hbm, ⟨7, _⟩ => ⟨S4096x128, .f32⟩
  | .hbm, ⟨8, _⟩ => ⟨S4096x128, .bf16⟩
  | .hbm, ⟨9, _⟩ => ⟨S4096x512, .bf16⟩
  | .hbm, ⟨10, _⟩ => ⟨S4096x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S256x512, .bf16⟩
  | .local _ .vmem, ⟨13, _⟩ => ⟨S256x512, .bf16⟩
  | .local _ .vmem, ⟨14, _⟩ => ⟨S256x3072, .f32⟩
  | .local _ .vmem, ⟨15, _⟩ => ⟨S256x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1024 : Shape := ⟨2, ![4096, 1024]⟩
abbrev S1024 : Shape := ⟨1, ![1024]⟩
abbrev S1024x5376 : Shape := ⟨2, ![1024, 5376]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5376 : Shape := ⟨2, ![4096, 5376]⟩
abbrev S4096x512 : Shape := ⟨2, ![4096, 512]⟩
abbrev S4096x128 : Shape := ⟨2, ![4096, 128]⟩
abbrev S4096x3072 : Shape := ⟨2, ![4096, 3072]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5376, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5376, .f32⟩
  | .hbm, ⟨20, _⟩ => ⟨S4096x512, .f32⟩
  | .hbm, ⟨21, _⟩ => ⟨S4096x1024, .f32⟩
  | .hbm, ⟨22, _⟩ => ⟨S4096x128, .f32⟩
  | .hbm, ⟨23, _⟩ => ⟨S4096x128, .f32⟩
  | .hbm, ⟨24, _⟩ => ⟨S4096x512, .f32⟩
  | .hbm, ⟨25, _⟩ => ⟨S4096x3072, .f32⟩
  | .hbm, ⟨26, _⟩ => ⟨S4096x128, .bf16⟩
  | .hbm, ⟨27, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x1024 : Shape := ⟨2, ![1024, 1024]⟩
abbrev S1x1024 : Shape := ⟨2, ![1, 1024]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S8x256x512, .bf16⟩
  | .hbm, ⟨6, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S8x256x512, .bf16⟩
  | .hbm, ⟨23, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S4096x3072 : Shape := ⟨2, ![4096, 3072]⟩
abbrev S1x256x512 : Shape := ⟨3, ![1, 256, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x512 : Shape := ⟨2, ![1, 512]⟩
abbrev S1x1024 : Shape := ⟨2, ![1, 1024]⟩
abbrev S16x4096x128 : Shape := ⟨3, ![16, 4096, 128]⟩
abbrev S256x1024 : Shape := ⟨2, ![256, 1024]⟩
abbrev S256x512 : Shape := ⟨2, ![256, 512]⟩
abbrev S16x512 : Shape := ⟨2, ![16, 512]⟩
abbrev S256x3072 : Shape := ⟨2, ![256, 3072]⟩
abbrev S16x256x128 : Shape := ⟨3, ![16, 256, 128]⟩
abbrev S256x1 : Shape := ⟨2, ![256, 1]⟩
abbrev S256x128 : Shape := ⟨2, ![256, 128]⟩
abbrev S16x128 : Shape := ⟨2, ![16, 128]⟩
abbrev S272x128 : Shape := ⟨2, ![272, 128]⟩
abbrev S1x128x128 : Shape := ⟨3, ![1, 128, 128]⟩
abbrev S128x128 : Shape := ⟨2, ![128, 128]⟩
abbrev S1x256x128 : Shape := ⟨3, ![1, 256, 128]⟩
abbrev S256x256 : Shape := ⟨2, ![256, 256]⟩
abbrev S256 : Shape := ⟨1, ![256]⟩
abbrev S1024x128 : Shape := ⟨2, ![1024, 128]⟩

abbrev nBuf : Space → Nat
  | .hbm => 26
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .bf16⟩
  | .hbm, ⟨3, _⟩ => ⟨S4096x512, .bf16⟩
  | .hbm, ⟨4, _⟩ => ⟨S4096x3072, .f32⟩
  | .hbm, ⟨5, _⟩ => ⟨S1x256x512, .bf16⟩
  | .hbm, ⟨6, _⟩ => ⟨S1x256x512, .bf16⟩
  | .hbm, ⟨7, _⟩ => ⟨S4x128x128, .f32⟩
  | .hbm, ⟨8, _⟩ => ⟨S512, .f32⟩
  | .hbm, ⟨9, _⟩ => ⟨S512x1024, .f32⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024x2048, .f32⟩
  | .hbm, ⟨15, _⟩ => ⟨S4x128x128, .bf16⟩
  | .hbm, ⟨16, _⟩ => ⟨S1x512, .f32⟩
  | .hbm, ⟨17, _⟩ => ⟨S512x1024, .bf16⟩
  | .hbm, ⟨18, _⟩ => ⟨S1024x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x2048, .bf16⟩
  | .hbm, ⟨23, _⟩ => ⟨S4096x1024, .f32⟩
  | .hbm, ⟨24, _⟩ => ⟨S4096x1024, .f32⟩
  | .hbm, ⟨25, _⟩ => ⟨S16x4096x128, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x3072, .f32⟩
  | .local _ .vmem, ⟨11, _⟩ => ⟨S256x3072, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S4x128x128, .bf16⟩
  | .local _ .vmem, ⟨17, _⟩ => ⟨S1x512, .f32⟩
  | .local _ .vmem, ⟨18, _⟩ => ⟨S512x1024, .bf16⟩
  | .local _ .vmem, ⟨19, _⟩ => ⟨S1024x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x2048, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S16x256x128, .bf16⟩
  | .local _ .vmem, ⟨29, _⟩ => ⟨S16x256x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S4096x1024 : Shape := ⟨2, ![4096, 1024]⟩
abbrev S4096x512 : Shape := ⟨2, ![4096, 512]⟩
abbrev S4096x3072 : Shape := ⟨2, ![4096, 3072]⟩
abbrev S1x256x512 : Shape := ⟨3, ![1, 256, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S4112x512 : Shape := ⟨2, ![4112, 512]⟩
abbrev S4096 : Shape := ⟨1, ![4096]⟩
abbrev S4096x128 : Shape := ⟨2, ![4096, 128]⟩
abbrev S4096x1 : Shape := ⟨2, ![4096, 1]⟩
abbrev S4096x1x128 : Shape := ⟨3, ![4096, 1, 128]⟩
abbrev S4096x4x128 : Shape := ⟨3, ![4096, 4, 128]⟩
abbrev S4x128x4096 : Shape := ⟨3, ![4, 128, 4096]⟩
abbrev S1x512 : Shape := ⟨2, ![1, 512]⟩
abbrev S256x512 : Shape := ⟨2, ![256, 512]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4096x3x1024 : Shape := ⟨3, ![4096, 3, 1024]⟩
abbrev S4096x1x1024 : Shape := ⟨3, ![4096, 1, 1024]⟩
abbrev S1x1024 : Shape := ⟨2, ![1, 1024]⟩
abbrev S4096x2048 : Shape := ⟨2, ![4096, 2048]⟩
abbrev S4096x16x128 : Shape := ⟨3, ![4096, 16, 128]⟩
abbrev S16x4096x128 : Shape := ⟨3, ![16, 4096, 128]⟩

abbrev nBuf : Space → Nat
  | .hbm => 168
  | .vmem => 0
  | .smem => 0
  | _ => 0

abbrev hbmTy0_0 (i : Nat) : BufTy := match i % 128 with
  | 0 => ⟨S4096x1024, .f32⟩
  | 1 => ⟨S4096x512, .f32⟩
  | 2 => ⟨S4096x1024, .bf16⟩
  | 3 => ⟨S4096x512, .bf16⟩
  | 4 => ⟨S4096x3072, .f32⟩
  | 5 => ⟨S1x256x512, .bf16⟩
  | 6 => ⟨S1x256x512, .bf16⟩
  | 7 => ⟨S4x128x128, .f32⟩
  | 8 => ⟨S512, .f32⟩
  | 9 => ⟨S512x1024, .f32⟩
  | 10 => ⟨S1024x1024, .f32⟩
  | 11 => ⟨S512x1024, .f32⟩
  | 12 => ⟨S1024x1024, .f32⟩
  | 13 => ⟨S1024, .f32⟩
  | 14 => ⟨S1024x2048, .f32⟩
  | 15 => ⟨S_, .f32⟩
  | 16 => ⟨S_, .f32⟩
  | 17 => ⟨S4096x512, .f32⟩
  | 18 => ⟨S_, .i32⟩
  | 19 => ⟨S_, .f32⟩
  | 20 => ⟨S4112x512, .f32⟩
  | 21 => ⟨S4096, .i32⟩
  | 22 => ⟨S4096x128, .f32⟩
  | 23 => ⟨S4096x128, .f32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .f32⟩
  | 31 => ⟨S4096x1, .f32⟩
  | 32 => ⟨S4096x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S4096x128, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .f32⟩
  | 46 => ⟨S4096x1, .f32⟩
  | 47 => ⟨S4096x128, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S4096, .f32⟩
  | 61 => ⟨S4096x1, .f32⟩
  | 62 => ⟨S4096x128, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .f32⟩
  | 76 => ⟨S4096x1, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x1x128, .f32⟩
  | 83 => ⟨S4096x1x128, .f32⟩
  | 84 => ⟨S4096x1x128, .f32⟩
  | 85 => ⟨S4096x1x128, .f32⟩
  | 86 => ⟨S4096x4x128, .f32⟩
  | 87 => ⟨S4x128x4096, .f32⟩
  | 88 => ⟨S4096x4x128, .f32⟩
  | 89 => ⟨S4096x512, .f32⟩
  | 90 => ⟨S1x512, .f32⟩
  | 91 => ⟨S4096x512, .f32⟩
  | 92 => ⟨S4096x512, .f32⟩
  | 93 => ⟨S4096x1024, .f32⟩
  | 94 => ⟨S4096x512, .f32⟩
  | 95 => ⟨S256x512, .bf16⟩
  | 96 => ⟨S256x512, .f32⟩
  | 97 => ⟨S256x512, .bf16⟩
  | 98 => ⟨S256x512, .f32⟩
  | 99 => ⟨S4096x4x128, .f32⟩
  | 100 => ⟨S256x4x128, .f32⟩
  | 101 => ⟨S256x4x128, .f32⟩
  | 102 => ⟨S4x4096x256, .f32⟩
  | 103 => ⟨S_, .f32⟩
  | 104 => ⟨S4x4096x256, .f32⟩
  | 105 => ⟨S4x4096x256, .f32⟩
  | 106 => ⟨S_, .f32⟩
  | 107 => ⟨S4x4096, .f32⟩
  | 108 => ⟨S_, .f32⟩
  | 109 => ⟨S4x4096, .f32⟩
  | 110 => ⟨S4x4096, .f32⟩
  | 111 => ⟨S4x4096x1, .f32⟩
  | 112 => ⟨S4x4096x256, .f32⟩
  | 113 => ⟨S4x4096x256, .f32⟩
  | 114 => ⟨S4x4096x256, .f32⟩
  | 115 => ⟨S_, .f32⟩
  | 116 => ⟨S4x4096, .f32⟩
  | 117 => ⟨S4x4096x1, .f32⟩
  | 118 => ⟨S4x4096x256, .f32⟩
  | 119 => ⟨S4x4096x256, .f32⟩
  | 120 => ⟨S4x128x4096, .f32⟩
  | 121 => ⟨S4096x4x128, .f32⟩
  | 122 => ⟨S4096x512, .f32⟩
  | 123 => ⟨S4096x3x1024, .f32⟩
  | 124 => ⟨S4096x3x1024, .f32⟩
  | 125 => ⟨S4096x3x1024, .f32⟩
  | 126 => ⟨S_, .f32⟩
  | 127 => ⟨S4096x3x1024, .f32⟩
  | _ => ⟨S4096x1024, .f32⟩

abbrev hbmTy0_1 (i : Nat) : BufTy := match i % 128 with
  | 0 => ⟨S4096x3x1024, .f32⟩
  | 1 => ⟨S_, .f32⟩
  | 2 => ⟨S4096x3x1024, .f32⟩
  | 3 => ⟨S4096x3x1024, .f32⟩
  | 4 => ⟨S4096x1x1024, .f32⟩
  | 5 => ⟨S4096x1024, .f32⟩
  | 6 => ⟨S4096x1024, .f32⟩
  | 7 => ⟨S4096x1024, .f32⟩
  | 8 => ⟨S4096x1x1024, .f32⟩
  | 9 => ⟨S4096x1024, .f32⟩
  | 10 => ⟨S4096x1024, .f32⟩
  | 11 => ⟨S4096x1024, .f32⟩
  | 12 => ⟨S4096x1024, .f32⟩
  | 13 => ⟨S4096x1x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1024, .f32⟩
  | 32 => ⟨S4096x1024, .f32⟩
  | 33 => ⟨S1x1024, .f32⟩
  | 34 => ⟨S4096x1024, .f32⟩
  | 35 => ⟨S4096x1024, .f32⟩
  | 36 => ⟨S4096x2048, .f32⟩
  | 37 => ⟨S4096x16x128, .f32⟩
  | 38 => ⟨S16x4096x128, .f32⟩
  | 39 => ⟨S16x4096x128, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_cst : Ref sig .tc := ⟨.hbm, 15, rfl⟩
abbrev main_call0_call0_v0 : Ref sig .tc := ⟨.hbm, 16, rfl⟩
abbrev main_v0 : Ref sig .tc := ⟨.hbm, 17, rfl⟩
abbrev main_c : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst : Ref sig .tc := ⟨.hbm, 103, rfl⟩
abbrev main_v76 : Ref sig .tc := ⟨.hbm, 104, rfl⟩
abbrev main_v77 : Ref sig .tc := ⟨.hbm, 105, rfl⟩
abbrev main_cst_8 : Ref sig .tc := ⟨.hbm, 106, rfl⟩
abbrev main_v78 : Ref sig .tc := ⟨.hbm, 107, rfl⟩
abbrev main_cst_9 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_10 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_11 : Ref sig .tc := ⟨.hbm, 126, rfl⟩
abbrev main_v95 : Ref sig .tc := ⟨.hbm, 127, rfl⟩
abbrev main_v96 : Ref sig .tc := ⟨.hbm, 128, rfl⟩
abbrev main_cst_12 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_13 : Ref sig .tc := ⟨.hbm, 149, rfl⟩
abbrev main_v116 : Ref sig .tc := ⟨.hbm, 150, rfl⟩
abbrev main_v117 : Ref sig .tc := ⟨.hbm, 151, rfl⟩
abbrev main_cst_14 : Ref sig .tc := ⟨.hbm, 152, rfl⟩
abbrev main_v118 : Ref sig .tc := ⟨.hbm, 153, rfl⟩
abbrev main_v119 : Ref sig .tc := ⟨.hbm, 154, rfl⟩
abbrev main_cst_15 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩

abbrev nD : Nat := 1
abbrev τ : Topo := Topo.v7x

variable {F : FTy → Type} [FloatOps F]
-- ==== Kernel5.lean ====
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference5Ideal.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Attn.Math.lean ====
/- The mathematics of one attention row and of the rotary turn, over the extended reals. Nothing here
   mentions a program: a row is 256 scores, a sink and 256 values; a head is 64 lanes. -/
module

public import Idealize.ShloMosaic.PureOps.Ideal
public import Idealize.ShloMosaic.Lib.Pointwise

@[expose] public section

noncomputable section

namespace Cert.Attn

open Idealize.ShloMosaic

/-- The largest of a row's scores and its sink. -/
def top (sc : Fin 256 → EReal) (sink : EReal) : EReal :=
  max (Finset.fold max (Ideal.ofBits FTy.f32 0xFF800000#32) sc Finset.univ) sink

/-- What a row's weights are divided by: the exponentials' sum, the sink's included. -/
def total (sc : Fin 256 → EReal) (sink : EReal) : EReal :=
  ∑ j, Ideal.exp (sc j - top sc sink) + Ideal.exp (sink - top sc sink)

/-- The softmax weight of key `j`. -/
def weight (sc : Fin 256 → EReal) (sink : EReal) (j : Fin 256) : EReal :=
  Ideal.div (Ideal.exp (sc j - top sc sink)) (total sc sink)

/-- One attention output: the values' sum under the weights. -/
def attend (sc : Fin 256 → EReal) (sink : EReal) (v : Fin 256 → EReal) : EReal :=
  ∑ j, weight sc sink j * v j

/-- An exponential is not negative. -/
theorem exp_nonneg (x : EReal) : 0 ≤ Ideal.exp x := by
  induction x with
  | bot => simp
  | top => simp
  | coe r => simpa using (Real.exp_pos r).le

/-- A masked key's weight is zero, unless the total is. -/
theorem weight_of_bot (sc : Fin 256 → EReal) (sink : EReal) (j : Fin 256) (h : sc j = ⊥)
    (ht : total sc sink ≠ 0) : weight sc sink j = 0 := by
  rw [weight, h, EReal.bot_sub, Ideal.exp_bot, Ideal.div, if_neg ht, zero_mul]

/-- If the total is zero, every weight is the quotient of zero by zero, which reads `⊥`. -/
theorem weight_of_total (sc : Fin 256 → EReal) (sink : EReal) (j : Fin 256)
    (ht : total sc sink = 0) : weight sc sink j = ⊥ := by
  have h1 : ∑ j, Ideal.exp (sc j - top sc sink) = 0 := by
    refine le_antisymm ?_ (Finset.sum_nonneg fun j _ => exp_nonneg _)
    calc ∑ j, Ideal.exp (sc j - top sc sink) ≤ total sc sink := by
          rw [total]; exact le_add_of_nonneg_right (exp_nonneg _)
      _ = 0 := ht
  have h2 : Ideal.exp (sc j - top sc sink) = 0 :=
    (Finset.sum_eq_zero_iff_of_nonneg fun j _ => exp_nonneg _).mp h1 j (Finset.mem_univ j)
  rw [weight, h2, ht, Ideal.div, if_pos rfl, if_neg (lt_irrefl _)]

/-- Values that are all zero attend to zero. -/
theorem attend_zero (sc : Fin 256 → EReal) (sink : EReal) (v : Fin 256 → EReal) (h : ∀ j, v j = 0) :
    attend sc sink v = 0 := by
  rw [attend]
  exact Finset.sum_eq_zero fun j _ => by rw [h j, mul_zero]

/-- A sum of multiples of `⊥` is one of `0`, `⊤`, `⊥`. -/
theorem sum_bot_mul {n : ℕ} (f : Fin n → EReal) :
    ∑ j, ⊥ * f j = 0 ∨ ∑ j, ⊥ * f j = ⊤ ∨ ∑ j, ⊥ * f j = ⊥ := by
  have one : ∀ x : EReal, ⊥ * x = 0 ∨ ⊥ * x = ⊤ ∨ ⊥ * x = ⊥ := by
    intro x
    rcases lt_trichotomy x 0 with h | h | h
    · exact .inr (.inl (EReal.bot_mul_of_neg h))
    · exact .inl (by rw [h, mul_zero])
    · exact .inr (.inr (EReal.bot_mul_of_pos h))
  refine Finset.sum_induction _ (fun x => x = 0 ∨ x = ⊤ ∨ x = ⊥) ?_ (.inl rfl) fun j _ => one (f j)
  rintro a b (rfl | rfl | rfl) (rfl | rfl | rfl) <;> simp

/-- Such a sum taken twice is itself. -/
theorem sum_bot_mul_twice {n : ℕ} (f : Fin n → EReal) :
    ∑ j, ⊥ * f j + ∑ j, ⊥ * f j = ∑ j, ⊥ * f j := by
  rcases sum_bot_mul f with h | h | h <;> rw [h] <;> simp

/-- The first block of a sequence: its 128 earlier keys are masked, so it does not matter whether their
    values are zeros or those of the block itself once more. -/
theorem attend_first (sc : Fin 256 → EReal) (sink : EReal) (v w : Fin 256 → EReal)
    (hs : ∀ a : Fin 128, sc ⟨a, by omega⟩ = ⊥) (hw : ∀ a : Fin 128, w ⟨a, by omega⟩ = 0)
    (hvw : ∀ a : Fin 128, v ⟨128 + a, by omega⟩ = w ⟨128 + a, by omega⟩)
    (hv : ∀ a : Fin 128, v ⟨a, by omega⟩ = v ⟨128 + a, by omega⟩) :
    attend sc sink v = attend sc sink w := by
  have cut : ∀ f : Fin 256 → EReal,
      ∑ j, f j = ∑ a : Fin 128, f ⟨a, by omega⟩ + ∑ a : Fin 128, f ⟨128 + a, by omega⟩ := fun f =>
    Fin.sum_univ_add (a := 128) (b := 128) f
  rw [attend, attend, cut, cut]
  by_cases ht : total sc sink = 0
  · simp only [weight_of_total sc sink _ ht, hw, hv, hvw, mul_zero, Finset.sum_const_zero, zero_add]
    exact sum_bot_mul_twice _
  · simp only [weight_of_bot sc sink _ (hs _) ht, zero_mul, Finset.sum_const_zero, hvw]

/-- The rotary turn of one head's 64 lanes by 32 angles: lane `d` of the first half is turned with lane
    `d + 32`, lane `d` of the second half with lane `d - 32`. -/
def turn (x : Fin 64 → EReal) (a : Fin 32 → EReal) (d : Fin 64) : EReal :=
  if h : (d : ℕ) < 32 then
    x d * Ideal.cos (a ⟨d, h⟩) - x ⟨d + 32, by omega⟩ * Ideal.sin (a ⟨d, h⟩)
  else x d * Ideal.cos (a ⟨d - 32, by omega⟩) + x ⟨d - 32, by omega⟩ * Ideal.sin (a ⟨d - 32, by omega⟩)

/-- The turn of two heads side by side on 128 lanes: each lane is paired with the one 32 lanes on
    (negated) or 32 lanes back. -/
def turn2 (x a : Fin 128 → EReal) (l : Fin 128) : EReal :=
  x l * Ideal.cos (a l)
    + (if (l : ℕ) % 64 < 32 then 0 - x ⟨(l + 128 - 96) % 128, by omega⟩
        else x ⟨(l + 128 - 32) % 128, by omega⟩) * Ideal.sin (a l)

/-- The turn on 128 lanes is the turn of each head, when the angles repeat every 32 lanes. -/
theorem turn2_eq (x a : Fin 128 → EReal) (b : Fin 32 → EReal) (p : Fin 2) (d : Fin 64)
    (ha : ∀ l : Fin 128, a l = b ⟨l % 32, by omega⟩) :
    turn2 x a ⟨p * 64 + d, by omega⟩ = turn (fun e => x ⟨p * 64 + e, by omega⟩) b d := by
  rw [turn2, turn, ha]
  by_cases h : (d : ℕ) < 32
  · have e1 : (⟨((p * 64 + d : ℕ) + 128 - 96) % 128, by omega⟩ : Fin 128) = ⟨p * 64 + (d + 32), by omega⟩ :=
      Fin.ext (by show ((p * 64 + d : ℕ) + 128 - 96) % 128 = p * 64 + (d + 32); omega)
    have e2 : (⟨(p * 64 + d : ℕ) % 32, by omega⟩ : Fin 32) = ⟨d, h⟩ :=
      Fin.ext (by show (p * 64 + d : ℕ) % 32 = d; omega)
    rw [dif_pos h, if_pos (by show (p * 64 + d : ℕ) % 64 < 32; omega)]
    dsimp only
    rw [e1, e2, zero_sub, EReal.neg_mul, ← sub_eq_add_neg]
  · have e1 : (⟨((p * 64 + d : ℕ) + 128 - 32) % 128, by omega⟩ : Fin 128) = ⟨p * 64 + (d - 32), by omega⟩ :=
      Fin.ext (by show ((p * 64 + d : ℕ) + 128 - 32) % 128 = p * 64 + (d - 32); omega)
    have e2 : (⟨(p * 64 + d : ℕ) % 32, by omega⟩ : Fin 32) = ⟨d - 32, by omega⟩ :=
      Fin.ext (by show (p * 64 + d : ℕ) % 32 = d - 32; omega)
    rw [dif_neg h, if_neg (by show ¬(p * 64 + d : ℕ) % 64 < 32; omega)]
    dsimp only
    rw [e1, e2]

/-- A sum over 128 lanes of which head `p`'s 64 alone count. -/
theorem sum_half (p : Fin 2) (f : Fin 128 → EReal) (h : ∀ l : Fin 128, (l : ℕ) / 64 ≠ p → f l = 0) :
    ∑ l, f l = ∑ d : Fin 64, f ⟨p * 64 + d, by omega⟩ := by
  have cut : ∑ l, f l = ∑ a : Fin 64, f ⟨a, by omega⟩ + ∑ a : Fin 64, f ⟨64 + a, by omega⟩ :=
    Fin.sum_univ_add (a := 64) (b := 64) f
  rw [cut]
  rcases Nat.lt_or_ge p 1 with hp | hp
  · rw [Finset.sum_eq_zero (f := fun a : Fin 64 => f ⟨64 + a, by omega⟩) fun a _ =>
      h _ (by show (64 + a : ℕ) / 64 ≠ p; omega), add_zero]
    exact Finset.sum_congr rfl fun a _ => congrArg f (Fin.ext (by show (a : ℕ) = p * 64 + a; omega))
  · rw [Finset.sum_eq_zero (f := fun a : Fin 64 => f ⟨a, by omega⟩) fun a _ =>
      h _ (by show (a : ℕ) / 64 ≠ p; omega), zero_add]
    exact Finset.sum_congr rfl fun a _ => congrArg f (Fin.ext (by show (64 + a : ℕ) = p * 64 + a; omega))

end Cert.Attn

end
-- ==== Proof.Attn.Tile.lean ====
/- The kernel's tile: what one column chunk of 128 lanes stores, as one function of the turned queries, the
   keys and values of the two blocks laid out for the left and for the right head, the mask and the sinks. -/
module

public import proofs.«01_k».proof.Proof.Gen.KernelIdeal.Skeleton
public import proofs.«01_k».proof.Proof.Attn.Math
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe

section Tile

variable {F : FTy → Type} [FloatOps F] [Named F]

/-- A block's scores under one head's keys: masked entries hold the named constant. -/
def SCORE (q : FVec F S128x128 .bf16) (kx : FVec F S256x128 .bf16) (ok : IVec S128x256 1) : FVec F S128x256 .f32 :=
  select ok
    (mulf (matmul dot_S128x128_S256x128_S128x256_1_1_0_0_n_n none q kx (constant S128x256 .f32 0x00000000#32))
      (broadcast S128x256 (Scalar.ofBits .f32 0x3E000000#32 : F .f32)))
    (broadcast S128x256 (Named.named κ "mask" 0xF149F2CA#32 : F .f32))

/-- The scores' row maxima, the sink's included. -/
def TOP (s : FVec F S128x256 .f32) (sink : F .f32) : FVec F S128x1 .f32 :=
  maximumf (shapeCast S128x1 (multiReduction .maximumf [1] S128 s 0xFF800000#32 reduces_S128x256_S128 (.inl rfl) rfl)
      shapeCasts_S128_S128x1)
    (broadcast S128x1 sink)

/-- The softmax weights of a block of scores. -/
def WEIGHT (s : FVec F S128x256 .f32) (sink : F .f32) : FVec F S128x256 .f32 :=
  let p := exp (subf s (broadcastTo S128x256 (TOP s sink) broadcasts_S128x1_S128x256))
  divf p (broadcastTo S128x256
    (addf (shapeCast S128x1 (multiReduction .add [1] S128 p 0x00000000#32 reduces_S128x256_S128 (.inl rfl) rfl)
        shapeCasts_S128_S128x1)
      (exp (subf (broadcast S128x1 sink) (TOP s sink))))
    broadcasts_S128x1_S128x256)

/-- One head's part of the chunk, added to what is there. -/
def HEAD (acc : FVec F S128x128 .f32) (q : FVec F S128x128 .bf16) (kx vx : FVec F S256x128 .bf16)
    (ok : IVec S128x256 1) (sink : F .f32) : FVec F S128x128 .f32 :=
  addf acc (matmul dot_S128x256_S256x128_S128x128_1_0_0_1_n_n none
    (truncf .bf16 (WEIGHT (SCORE q kx ok) sink) bitsLt_bf16_f32) vx (constant S128x128 .f32 0x00000000#32))

/-- The chunk: the left head's part, then the right head's. -/
def PAIR (q : FVec F S128x128 .bf16) (kl kr vl vr : FVec F S256x128 .bf16) (ok : IVec S128x256 1)
    (s0 s1 : F .f32) : FVec F S128x128 .bf16 :=
  truncf .bf16
    (HEAD (HEAD (broadcast S128x128 (Scalar.ofBits .f32 0x00000000#32 : F .f32)) q kl vl ok s0) q kr vr ok s1)
    bitsLt_bf16_f32

/-- The turned queries of a chunk. -/
def QT (X6 : IVec S128x1 32) (X8 : FVec F S1x128 .f32) (xq : FVec F S128x128 .f32) : FVec F S128x128 .bf16 :=
  k0_pay26 k0_pay2 (k0_pay5 X8 X6) (k0_pay6 X8 X6) xq

/-- The turned keys of the two blocks, group 0, on the left head's lanes. -/
def KL0 (X2 X3 : FVec F S128x128 .f32) (X6 X7 : IVec S128x1 32) (X8 : FVec F S1x128 .f32) : FVec F S256x128 .bf16 :=
  k0_pay15 k0_pay2 k0_pay3 (k0_pay5 X8 X6) (k0_pay6 X8 X6) (k0_pay8 X8 X7) (k0_pay9 X8 X7) X3 (k0_pay10 X3) X2

/-- The same for group 1. -/
def KL1 (X2 X3 : FVec F S128x128 .f32) (X6 X7 : IVec S128x1 32) (X8 : FVec F S1x128 .f32) : FVec F S256x128 .bf16 :=
  k0_pay16 k0_pay2 k0_pay3 (k0_pay5 X8 X6) (k0_pay6 X8 X6) (k0_pay8 X8 X7) (k0_pay9 X8 X7) X3 (k0_pay10 X3) X2

/-- Group 0 on the right head's lanes. -/
def KR0 (X2 X3 : FVec F S128x128 .f32) (X6 X7 : IVec S128x1 32) (X8 : FVec F S1x128 .f32) : FVec F S256x128 .bf16 :=
  k0_pay17 k0_pay2 k0_pay3 (k0_pay5 X8 X6) (k0_pay6 X8 X6) (k0_pay8 X8 X7) (k0_pay9 X8 X7) X3 (k0_pay10 X3) X2

/-- Group 1 on the right head's lanes. -/
def KR1 (X2 X3 : FVec F S128x128 .f32) (X6 X7 : IVec S128x1 32) (X8 : FVec F S1x128 .f32) : FVec F S256x128 .bf16 :=
  k0_pay18 k0_pay2 k0_pay3 (k0_pay5 X8 X6) (k0_pay6 X8 X6) (k0_pay8 X8 X7) (k0_pay9 X8 X7) X3 (k0_pay10 X3) X2

/-- The values of the two blocks, group 0, on the left head's lanes. -/
def VL0 (X4 X5 : FVec F S128x128 .bf16) : FVec F S256x128 .bf16 :=
  k0_pay21 k0_pay3 (k0_pay12 X5 X4) (FloatOps.ofBits FTy.f32 0#32)

/-- The same for group 1. -/
def VL1 (X4 X5 : FVec F S128x128 .bf16) : FVec F S256x128 .bf16 :=
  k0_pay22 k0_pay3 (k0_pay19 X5 X4) (FloatOps.ofBits FTy.f32 0#32)

/-- Group 0 on the right head's lanes. -/
def VR0 (X4 X5 : FVec F S128x128 .bf16) : FVec F S256x128 .bf16 :=
  k0_pay23 k0_pay3 (k0_pay19 X5 X4) (FloatOps.ofBits FTy.f32 0#32)

/-- Group 1 on the right head's lanes. -/
def VR1 (X4 X5 : FVec F S128x128 .bf16) : FVec F S256x128 .bf16 :=
  k0_pay24 k0_pay3 (k0_pay12 X5 X4) (FloatOps.ofBits FTy.f32 0#32)

/-- Column chunk 0, as stored, is the two-head tile of heads 0 and 1. -/
theorem chunk0 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay29 (k0_pay17 k0_pay2 k0_pay3 (k0_pay5 X8 X6) (k0_pay6 X8 X6) (k0_pay8 X8 X7) (k0_pay9 X8 X7) X3
      (k0_pay10 X3) X2) (k0_pay21 k0_pay3 (k0_pay12 X5 X4) (FloatOps.ofBits FTy.f32 0#32)) (k0_pay23 k0_pay3
      (k0_pay19 X5 X4) (FloatOps.ofBits FTy.f32 0#32)) (k0_pay25 n) (k0_pay26 k0_pay2 (k0_pay5 X8 X6) (k0_pay6 X8
      X6) xq) k0_pay27 s0 (k0_pay28 k0_pay2 (k0_pay5 X8 X6) (k0_pay6 X8 X6) (k0_pay15 k0_pay2 k0_pay3 (k0_pay5 X8
      X6) (k0_pay6 X8 X6) (k0_pay8 X8 X7) (k0_pay9 X8 X7) X3 (k0_pay10 X3) X2) xq) (Named.named κ "mask"
      4048155338#32) s1
      = PAIR (QT X6 X8 xq) (KL0 X2 X3 X6 X7 X8) (KR0 X2 X3 X6 X7 X8) (VL0 X4 X5) (VR0 X4 X5)
          (k0_pay25 n) s0 s1 := rfl

/-- Column chunk 1, as stored, is the two-head tile of heads 2 and 3. -/
theorem chunk1 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay33 (k0_pay23 k0_pay3 (k0_pay19 X5 X4) (FloatOps.ofBits FTy.f32 0#32)) (k0_pay31 k0_pay2 (k0_pay5 X8 X6)
      (k0_pay6 X8 X6) (k0_pay15 k0_pay2 k0_pay3 (k0_pay5 X8 X6) (k0_pay6 X8 X6) (k0_pay8 X8 X7) (k0_pay9 X8 X7)
      X3 (k0_pay10 X3) X2) (k0_pay21 k0_pay3 (k0_pay12 X5 X4) (FloatOps.ofBits FTy.f32 0#32)) (k0_pay25 n) xq s0)
      s1 (k0_pay32 k0_pay2 (k0_pay5 X8 X6) (k0_pay6 X8 X6) (k0_pay17 k0_pay2 k0_pay3 (k0_pay5 X8 X6) (k0_pay6 X8
      X6) (k0_pay8 X8 X7) (k0_pay9 X8 X7) X3 (k0_pay10 X3) X2) (k0_pay25 n) xq)
      = PAIR (QT X6 X8 xq) (KL0 X2 X3 X6 X7 X8) (KR0 X2 X3 X6 X7 X8) (VL0 X4 X5) (VR0 X4 X5)
          (k0_pay25 n) s0 s1 := rfl

/-- Column chunk 2, as stored, is the two-head tile of heads 4 and 5. -/
theorem chunk2 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay39 (k0_pay17 k0_pay2 k0_pay3 (k0_pay5 X8 X6) (k0_pay6 X8 X6) (k0_pay8 X8 X7) (k0_pay9 X8 X7) X3
      (k0_pay10 X3) X2) (k0_pay21 k0_pay3 (k0_pay12 X5 X4) (FloatOps.ofBits FTy.f32 0#32)) (k0_pay23 k0_pay3
      (k0_pay19 X5 X4) (FloatOps.ofBits FTy.f32 0#32)) (k0_pay25 n) (k0_pay34 k0_pay2 (k0_pay5 X8 X6) (k0_pay6 X8
      X6) xq) k0_pay35 s0 (k0_pay36 k0_pay2 (k0_pay5 X8 X6) (k0_pay6 X8 X6) (k0_pay15 k0_pay2 k0_pay3 (k0_pay5 X8
      X6) (k0_pay6 X8 X6) (k0_pay8 X8 X7) (k0_pay9 X8 X7) X3 (k0_pay10 X3) X2) (k0_pay25 n) xq) (k0_pay37 k0_pay2
      (k0_pay5 X8 X6) (k0_pay6 X8 X6) (k0_pay15 k0_pay2 k0_pay3 (k0_pay5 X8 X6) (k0_pay6 X8 X6) (k0_pay8 X8 X7)
      (k0_pay9 X8 X7) X3 (k0_pay10 X3) X2) (k0_pay25 n) xq s0) (k0_pay38 k0_pay2 (k0_pay5 X8 X6) (k0_pay6 X8 X6)
      (k0_pay15 k0_pay2 k0_pay3 (k0_pay5 X8 X6) (k0_pay6 X8 X6) (k0_pay8 X8 X7) (k0_pay9 X8 X7) X3 (k0_pay10 X3)
      X2) (k0_pay25 n) xq s0) s1
      = PAIR (QT X6 X8 xq) (KL0 X2 X3 X6 X7 X8) (KR0 X2 X3 X6 X7 X8) (VL0 X4 X5) (VR0 X4 X5)
          (k0_pay25 n) s0 s1 := rfl

/-- Column chunk 3, as stored, is the two-head tile of heads 6 and 7. -/
theorem chunk3 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay46 (k0_pay23 k0_pay3 (k0_pay19 X5 X4) (FloatOps.ofBits FTy.f32 0#32)) (k0_pay42 k0_pay2 (k0_pay5 X8 X6)
      (k0_pay6 X8 X6) (k0_pay15 k0_pay2 k0_pay3 (k0_pay5 X8 X6) (k0_pay6 X8 X6) (k0_pay8 X8 X7) (k0_pay9 X8 X7)
      X3 (k0_pay10 X3) X2) (k0_pay21 k0_pay3 (k0_pay12 X5 X4) (FloatOps.ofBits FTy.f32 0#32)) (k0_pay25 n) xq
      (k0_pay40 xq) (32#32) s0) s1 (k0_pay44 k0_pay2 (k0_pay5 X8 X6) (k0_pay6 X8 X6) (k0_pay17 k0_pay2 k0_pay3
      (k0_pay5 X8 X6) (k0_pay6 X8 X6) (k0_pay8 X8 X7) (k0_pay9 X8 X7) X3 (k0_pay10 X3) X2) (k0_pay25 n) xq
      (k0_pay40 xq) (32#32) s1) (k0_pay45 k0_pay2 (k0_pay5 X8 X6) (k0_pay6 X8 X6) (k0_pay17 k0_pay2 k0_pay3
      (k0_pay5 X8 X6) (k0_pay6 X8 X6) (k0_pay8 X8 X7) (k0_pay9 X8 X7) X3 (k0_pay10 X3) X2) (k0_pay25 n) xq
      (k0_pay40 xq) (32#32) s1)
      = PAIR (QT X6 X8 xq) (KL0 X2 X3 X6 X7 X8) (KR0 X2 X3 X6 X7 X8) (VL0 X4 X5) (VR0 X4 X5)
          (k0_pay25 n) s0 s1 := rfl

/-- Column chunk 4, as stored, is the two-head tile of heads 8 and 9. -/
theorem chunk4 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay54 (k0_pay18 k0_pay2 k0_pay3 (k0_pay5 X8 X6) (k0_pay6 X8 X6) (k0_pay8 X8 X7) (k0_pay9 X8 X7) X3
      (k0_pay10 X3) X2) (k0_pay22 k0_pay3 (k0_pay19 X5 X4) (FloatOps.ofBits FTy.f32 0#32)) (k0_pay24 k0_pay3
      (k0_pay12 X5 X4) (FloatOps.ofBits FTy.f32 0#32)) (k0_pay25 n) (k0_pay47 k0_pay2 (k0_pay5 X8 X6) (k0_pay6 X8
      X6) xq) k0_pay48 (k0_pay51 k0_pay2 (k0_pay5 X8 X6) (k0_pay6 X8 X6) (k0_pay16 k0_pay2 k0_pay3 (k0_pay5 X8
      X6) (k0_pay6 X8 X6) (k0_pay8 X8 X7) (k0_pay9 X8 X7) X3 (k0_pay10 X3) X2) (k0_pay25 n) xq s0) (k0_pay52
      k0_pay2 (k0_pay5 X8 X6) (k0_pay6 X8 X6) (k0_pay16 k0_pay2 k0_pay3 (k0_pay5 X8 X6) (k0_pay6 X8 X6) (k0_pay8
      X8 X7) (k0_pay9 X8 X7) X3 (k0_pay10 X3) X2) (k0_pay25 n) xq s0) (k0_pay53 k0_pay2 (k0_pay5 X8 X6) (k0_pay6
      X8 X6) (k0_pay16 k0_pay2 k0_pay3 (k0_pay5 X8 X6) (k0_pay6 X8 X6) (k0_pay8 X8 X7) (k0_pay9 X8 X7) X3
      (k0_pay10 X3) X2) (k0_pay25 n) xq s0) s1
      = PAIR (QT X6 X8 xq) (KL1 X2 X3 X6 X7 X8) (KR1 X2 X3 X6 X7 X8) (VL1 X4 X5) (VR1 X4 X5)
          (k0_pay25 n) s0 s1 := rfl

/-- Column chunk 5, as stored, is the two-head tile of heads 10 and 11. -/
theorem chunk5 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay58 (k0_pay24 k0_pay3 (k0_pay12 X5 X4) (FloatOps.ofBits FTy.f32 0#32)) (k0_pay56 (k0_pay16 k0_pay2
      k0_pay3 (k0_pay5 X8 X6) (k0_pay6 X8 X6) (k0_pay8 X8 X7) (k0_pay9 X8 X7) X3 (k0_pay10 X3) X2) (k0_pay22
      k0_pay3 (k0_pay19 X5 X4) (FloatOps.ofBits FTy.f32 0#32)) (k0_pay25 n) (k0_pay55 k0_pay2 (k0_pay5 X8 X6)
      (k0_pay6 X8 X6) xq) s0) (k0_pay57 (k0_pay18 k0_pay2 k0_pay3 (k0_pay5 X8 X6) (k0_pay6 X8 X6) (k0_pay8 X8 X7)
      (k0_pay9 X8 X7) X3 (k0_pay10 X3) X2) (k0_pay25 n) (k0_pay55 k0_pay2 (k0_pay5 X8 X6) (k0_pay6 X8 X6) xq) s1)
      = PAIR (QT X6 X8 xq) (KL1 X2 X3 X6 X7 X8) (KR1 X2 X3 X6 X7 X8) (VL1 X4 X5) (VR1 X4 X5)
          (k0_pay25 n) s0 s1 := rfl

/-- Column chunk 6, as stored, is the two-head tile of heads 12 and 13. -/
theorem chunk6 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay61 (k0_pay18 k0_pay2 k0_pay3 (k0_pay5 X8 X6) (k0_pay6 X8 X6) (k0_pay8 X8 X7) (k0_pay9 X8 X7) X3
      (k0_pay10 X3) X2) (k0_pay24 k0_pay3 (k0_pay12 X5 X4) (FloatOps.ofBits FTy.f32 0#32)) (k0_pay25 n) (k0_pay59
      k0_pay2 (k0_pay5 X8 X6) (k0_pay6 X8 X6) xq) (k0_pay60 k0_pay2 (k0_pay5 X8 X6) (k0_pay6 X8 X6) (k0_pay16
      k0_pay2 k0_pay3 (k0_pay5 X8 X6) (k0_pay6 X8 X6) (k0_pay8 X8 X7) (k0_pay9 X8 X7) X3 (k0_pay10 X3) X2)
      (k0_pay22 k0_pay3 (k0_pay19 X5 X4) (FloatOps.ofBits FTy.f32 0#32)) (k0_pay25 n) xq s0) s1
      = PAIR (QT X6 X8 xq) (KL1 X2 X3 X6 X7 X8) (KR1 X2 X3 X6 X7 X8) (VL1 X4 X5) (VR1 X4 X5)
          (k0_pay25 n) s0 s1 := rfl

/-- Column chunk 7, as stored, is the two-head tile of heads 14 and 15. -/
theorem chunk7 (X2 X3 : FVec F S128x128 .f32) (X4 X5 : FVec F S128x128 .bf16) (X6 X7 : IVec S128x1 32)
    (X8 : FVec F S1x128 .f32) (n : BitVec 32) (xq : FVec F S128x128 .f32) (s0 s1 : F .f32) :
    k0_pay66 (k0_pay18 k0_pay2 k0_pay3 (k0_pay5 X8 X6) (k0_pay6 X8 X6) (k0_pay8 X8 X7) (k0_pay9 X8 X7) X3
      (k0_pay10 X3) X2) (k0_pay22 k0_pay3 (k0_pay19 X5 X4) (FloatOps.ofBits FTy.f32 0#32)) (k0_pay24 k0_pay3
      (k0_pay12 X5 X4) (FloatOps.ofBits FTy.f32 0#32)) (k0_pay25 n) (k0_pay62 k0_pay2 (k0_pay5 X8 X6) (k0_pay6 X8
      X6) xq) k0_pay63 s0 (k0_pay64 k0_pay2 (k0_pay5 X8 X6) (k0_pay6 X8 X6) (k0_pay16 k0_pay2 k0_pay3 (k0_pay5 X8
      X6) (k0_pay6 X8 X6) (k0_pay8 X8 X7) (k0_pay9 X8 X7) X3 (k0_pay10 X3) X2) xq) k0_pay65 s1
      = PAIR (QT X6 X8 xq) (KL1 X2 X3 X6 X7 X8) (KR1 X2 X3 X6 X7 X8) (VL1 X4 X5) (VR1 X4 X5)
          (k0_pay25 n) s0 s1 := rfl

end Tile

/-- The tile read at row `r`, lane `l`: the two heads' attention outputs added up. -/
theorem pair_at (q : FVec Ideal S128x128 .bf16) (kl kr vl vr : FVec Ideal S256x128 .bf16) (ok : IVec S128x256 1)
    (s0 s1 : Ideal .f32) (r l : Fin 128) :
    PAIR q kl kr vl vr ok s0 s1 (ix2 r l)
      = attend (fun j => Scalar.select (ok (ix2 r j))
            ((∑ e : Fin 128, q (ix2 r e) * kl (ix2 j e)) * Ideal.ofBits FTy.f32 0x3E000000#32) ⊥) s0
          (fun j => vl (ix2 j l))
        + attend (fun j => Scalar.select (ok (ix2 r j))
            ((∑ e : Fin 128, q (ix2 r e) * kr (ix2 j e)) * Ideal.ofBits FTy.f32 0x3E000000#32) ⊥) s1
          (fun j => vr (ix2 j l)) := by
  have hm : (Named.named κ "mask" 0xF149F2CA#32 : Ideal .f32) = (⊥ : EReal) :=
    IdealRules.named_const.ideal_named_scalar _ _ _ _ rfl
  pointwise [PAIR, HEAD, WEIGHT, TOP, SCORE]
  rw [hm]
  rfl

end Cert.Attn

end
-- ==== Proof.Attn.Operands.lean ====
/- The tile's operands read at an index: the turned queries, the turned keys and the values on the lanes of
   the left and of the right head, and the mask. -/
module

public import proofs.«01_k».proof.Proof.Attn.Tile

@[expose] public section

set_option maxRecDepth 16384

noncomputable section

namespace Cert.Attn

open Cert.KernelIdeal Cert.KernelIdeal.Gen Idealize.ShloMosaic Idealize.ShloMosaic.TcCoe

/-- The angle of a row's position at a lane. -/
def ang (X : IVec S128x1 32) (X8 : FVec Ideal S1x128 .f32) (r e : Fin 128) : EReal :=
  (FloatOps.sitofp .f32 (X (ix2 r 0)) : Ideal .f32) * X8 (ix2 0 e)

/-- The lanes of a head's first half. -/
theorem first_half (l : Fin 128) : k0_pay2 (ix2 0 l) = if (l : ℕ) % 64 < 32 then 1#1 else 0#1 := by
  pointwise [k0_pay2]
  revert l
  decide +kernel

/-- The lanes of the left head. -/
theorem left_head (l : Fin 128) : k0_pay3 (ix2 0 l) = if (l : ℕ) < 64 then 1#1 else 0#1 := by
  pointwise [k0_pay3]
  revert l
  decide +kernel

/-- A selection on a bit that a condition sets. -/
theorem select_ite {α : Type} (p : Prop) [Decidable p] (a b : α) :
    Scalar.select (if p then 1#1 else 0#1) a b = if p then a else b := by
  by_cases h : p <;> simp [h, Scalar.select]

/-- The turned queries at row `r`, lane `l`. -/
theorem qt_at (X6 : IVec S128x1 32) (X8 : FVec Ideal S1x128 .f32) (xq : FVec Ideal S128x128 .f32) (r l : Fin 128) :
    QT X6 X8 xq (ix2 r l) = turn2 (fun e => xq (ix2 r e)) (ang X6 X8 r) l := by
  pointwise [QT, k0_pay26, k0_pay5, k0_pay6, k0_pay4, k0_pay1]
  rw [first_half, select_ite]
  rfl

/-- The turned keys of the two blocks: key `j` of the earlier block for `j < 128`, else of the block itself. -/
def kall (X2 X3 : FVec Ideal S128x128 .f32) (X6 X7 : IVec S128x1 32) (X8 : FVec Ideal S1x128 .f32)
    (j : Fin 256) (l : Fin 128) : EReal :=
  if h : (j : ℕ) < 128 then turn2 (fun e => X3 (ix2 ⟨j, h⟩ e)) (ang X7 X8 ⟨j, h⟩) l
  else turn2 (fun e => X2 (ix2 ⟨j - 128, by omega⟩ e)) (ang X6 X8 ⟨j - 128, by omega⟩) l

/-- The two blocks' turned keys, stacked. -/
theorem keys_at (X2 X3 : FVec Ideal S128x128 .f32) (X6 X7 : IVec S128x1 32) (X8 : FVec Ideal S1x128 .f32)
    (j : Fin 256) (l : Fin 128) :
    k0_pay11 (F := Ideal) k0_pay2 (k0_pay5 X8 X6) (k0_pay6 X8 X6) (k0_pay8 X8 X7) (k0_pay9 X8 X7) X3 (k0_pay10 X3) X2 (ix2 j l)
      = kall X2 X3 X6 X7 X8 j l := by
  pointwise [k0_pay11, k0_pay10, k0_pay5, k0_pay6, k0_pay4, k0_pay8, k0_pay9, k0_pay7, k0_pay1]
  rw [first_half]
  simp only [select_ite]
  rfl

/-- The values of the two blocks, stacked as the keys are. -/
def vall (X4 X5 : FVec Ideal S128x128 .bf16) (j : Fin 256) (l : Fin 128) : EReal :=
  if h : (j : ℕ) < 128 then X5 (ix2 ⟨j, h⟩ l) else X4 (ix2 ⟨j - 128, by omega⟩ l)

theorem vals_at (X4 X5 : FVec Ideal S128x128 .bf16) (j : Fin 256) (l : Fin 128) :
    k0_pay12 (F := Ideal) X5 X4 (ix2 j l) = vall X4 X5 j l := by
  pointwise [k0_pay12]
  rfl

/-- The keys of group 0 for the left head: on its own lanes, zero on the right head's. -/
theorem kl0_at (X2 X3 : FVec Ideal S128x128 .f32) (X6 X7 : IVec S128x1 32) (X8 : FVec Ideal S1x128 .f32)
    (j : Fin 256) (l : Fin 128) :
    KL0 X2 X3 X6 X7 X8 (ix2 j l) = if (l : ℕ) < 64 then kall X2 X3 X6 X7 X8 j l else 0 := by
  pointwise [KL0, k0_pay15, k0_pay14]
  rw [left_head, select_ite, keys_at]

theorem kl1_at (X2 X3 : FVec Ideal S128x128 .f32) (X6 X7 : IVec S128x1 32) (X8 : FVec Ideal S1x128 .f32)
    (j : Fin 256) (l : Fin 128) :
    KL1 X2 X3 X6 X7 X8 (ix2 j l)
      = if (l : ℕ) < 64 then kall X2 X3 X6 X7 X8 j ⟨(l + 128 - 64) % 128, by omega⟩ else 0 := by
  pointwise [KL1, k0_pay16, k0_pay13, k0_pay14]
  rw [left_head, select_ite, keys_at]

theorem kr0_at (X2 X3 : FVec Ideal S128x128 .f32) (X6 X7 : IVec S128x1 32) (X8 : FVec Ideal S1x128 .f32)
    (j : Fin 256) (l : Fin 128) :
    KR0 X2 X3 X6 X7 X8 (ix2 j l)
      = if (l : ℕ) < 64 then 0 else kall X2 X3 X6 X7 X8 j ⟨(l + 128 - 64) % 128, by omega⟩ := by
  pointwise [KR0, k0_pay17, k0_pay13, k0_pay14]
  rw [left_head, select_ite, keys_at]

theorem kr1_at (X2 X3 : FVec Ideal S128x128 .f32) (X6 X7 : IVec S128x1 32) (X8 : FVec Ideal S1x128 .f32)
    (j : Fin 256) (l : Fin 128) :
    KR1 X2 X3 X6 X7 X8 (ix2 j l) = if (l : ℕ) < 64 then 0 else kall X2 X3 X6 X7 X8 j l := by
  pointwise [KR1, k0_pay18, k0_pay14]
  rw [left_head, select_ite, keys_at]

theorem vl0_at (X4 X5 : FVec Ideal S128x128 .bf16) (j : Fin 256) (l : Fin 128) :
    VL0 X4 X5 (ix2 j l) = if (l : ℕ) < 64 then vall X4 X5 j l else 0 := by
  pointwise [VL0, k0_pay21, k0_pay20]
  rw [left_head, select_ite, vals_at]

theorem vl1_at (X4 X5 : FVec Ideal S128x128 .bf16) (j : Fin 256) (l : Fin 128) :
    VL1 X4 X5 (ix2 j l) = if (l : ℕ) < 64 then vall X4 X5 j ⟨(l + 128 - 64) % 128, by omega⟩ else 0 := by
  pointwise [VL1, k0_pay22, k0_pay19, k0_pay20]
  rw [left_head, select_ite, vals_at]

theorem vr0_at (X4 X5 : FVec Ideal S128x128 .bf16) (j : Fin 256) (l : Fin 128) :
    VR0 X4 X5 (ix2 j l) = if (l : ℕ) < 64 then 0 else vall X4 X5 j ⟨(l + 128 - 64) % 128, by omega⟩ := by
  pointwise [VR0, k0_pay23, k0_pay19, k0_pay20]
  rw [left_head, select_ite, vals_at]

theorem vr1_at (X4 X5 : FVec Ideal S128x128 .bf16) (j : Fin 256) (l : Fin 128) :
    VR1 X4 X5 (ix2 j l) = if (l : ℕ) < 64 then 0 else vall X4 X5 j l := by
  pointwise [VR1, k0_pay24, k0_pay20]
  rw [left_head, select_ite, vals_at]

end Cert.Attn

end
-- ==== Proof.Attn.Block.lean ====
/- One column chunk read at an index: the attention of one head over its group's turned keys and values. -/
module

public import proofs.«01_k».proof.Proof.Attn.Operands

@[expose] public section

set_option maxRecDepth 16384

noncomputable section

namespace Cert.Attn

open Cert.KernelIdeal Cert.KernelIdeal.Gen Idealize.ShloMosaic Idealize.ShloMosaic.TcCoe

/-- The lanes of a laid-out operand: head `p`'s hold group `g`'s 64 lanes, the other head's hold zero. -/
def OnHead (p g : Fin 2) (K : FVec Ideal S256x128 .bf16) (A : Fin 256 → Fin 128 → EReal) : Prop :=
  ∀ j l, K (ix2 j l) = if (l : ℕ) / 64 = p then A j ⟨g * 64 + l % 64, by omega⟩ else 0

theorem kl0_on (X2 X3 : FVec Ideal S128x128 .f32) (X6 X7 : IVec S128x1 32) (X8 : FVec Ideal S1x128 .f32) :
    OnHead 0 0 (KL0 X2 X3 X6 X7 X8) (kall X2 X3 X6 X7 X8) := by
  intro j l
  rw [kl0_at]
  by_cases h : (l : ℕ) < 64
  · rw [if_pos h, if_pos (by show (l : ℕ) / 64 = 0; omega)]
    exact congrArg _ (Fin.ext (by show (l : ℕ) = 0 * 64 + l % 64; omega))
  · rw [if_neg h, if_neg (by show ¬(l : ℕ) / 64 = 0; omega)]

theorem kl1_on (X2 X3 : FVec Ideal S128x128 .f32) (X6 X7 : IVec S128x1 32) (X8 : FVec Ideal S1x128 .f32) :
    OnHead 0 1 (KL1 X2 X3 X6 X7 X8) (kall X2 X3 X6 X7 X8) := by
  intro j l
  rw [kl1_at]
  by_cases h : (l : ℕ) < 64
  · rw [if_pos h, if_pos (by show (l : ℕ) / 64 = 0; omega)]
    exact congrArg _ (Fin.ext (by show ((l : ℕ) + 128 - 64) % 128 = 1 * 64 + l % 64; omega))
  · rw [if_neg h, if_neg (by show ¬(l : ℕ) / 64 = 0; omega)]

theorem kr0_on (X2 X3 : FVec Ideal S128x128 .f32) (X6 X7 : IVec S128x1 32) (X8 : FVec Ideal S1x128 .f32) :
    OnHead 1 0 (KR0 X2 X3 X6 X7 X8) (kall X2 X3 X6 X7 X8) := by
  intro j l
  rw [kr0_at]
  by_cases h : (l : ℕ) < 64
  · rw [if_pos h, if_neg (by show ¬(l : ℕ) / 64 = 1; omega)]
  · rw [if_neg h, if_pos (by show (l : ℕ) / 64 = 1; omega)]
    exact congrArg _ (Fin.ext (by show ((l : ℕ) + 128 - 64) % 128 = 0 * 64 + l % 64; omega))

theorem kr1_on (X2 X3 : FVec Ideal S128x128 .f32) (X6 X7 : IVec S128x1 32) (X8 : FVec Ideal S1x128 .f32) :
    OnHead 1 1 (KR1 X2 X3 X6 X7 X8) (kall X2 X3 X6 X7 X8) := by
  intro j l
  rw [kr1_at]
  by_cases h : (l : ℕ) < 64
  · rw [if_pos h, if_neg (by show ¬(l : ℕ) / 64 = 1; omega)]
  · rw [if_neg h, if_pos (by show (l : ℕ) / 64 = 1; omega)]
    exact congrArg _ (Fin.ext (by show (l : ℕ) = 1 * 64 + l % 64; omega))

theorem vl0_on (X4 X5 : FVec Ideal S128x128 .bf16) : OnHead 0 0 (VL0 X4 X5) (vall X4 X5) := by
  intro j l
  rw [vl0_at]
  by_cases h : (l : ℕ) < 64
  · rw [if_pos h, if_pos (by show (l : ℕ) / 64 = 0; omega)]
    exact congrArg _ (Fin.ext (by show (l : ℕ) = 0 * 64 + l % 64; omega))
  · rw [if_neg h, if_neg (by show ¬(l : ℕ) / 64 = 0; omega)]

theorem vl1_on (X4 X5 : FVec Ideal S128x128 .bf16) : OnHead 0 1 (VL1 X4 X5) (vall X4 X5) := by
  intro j l
  rw [vl1_at]
  by_cases h : (l : ℕ) < 64
  · rw [if_pos h, if_pos (by show (l : ℕ) / 64 = 0; omega)]
    exact congrArg _ (Fin.ext (by show ((l : ℕ) + 128 - 64) % 128 = 1 * 64 + l % 64; omega))
  · rw [if_neg h, if_neg (by show ¬(l : ℕ) / 64 = 0; omega)]

theorem vr0_on (X4 X5 : FVec Ideal S128x128 .bf16) : OnHead 1 0 (VR0 X4 X5) (vall X4 X5) := by
  intro j l
  rw [vr0_at]
  by_cases h : (l : ℕ) < 64
  · rw [if_pos h, if_neg (by show ¬(l : ℕ) / 64 = 1; omega)]
  · rw [if_neg h, if_pos (by show (l : ℕ) / 64 = 1; omega)]
    exact congrArg _ (Fin.ext (by show ((l : ℕ) + 128 - 64) % 128 = 0 * 64 + l % 64; omega))

theorem vr1_on (X4 X5 : FVec Ideal S128x128 .bf16) : OnHead 1 1 (VR1 X4 X5) (vall X4 X5) := by
  intro j l
  rw [vr1_at]
  by_cases h : (l : ℕ) < 64
  · rw [if_pos h, if_neg (by show ¬(l : ℕ) / 64 = 1; omega)]
  · rw [if_neg h, if_pos (by show (l : ℕ) / 64 = 1; omega)]
    exact congrArg _ (Fin.ext (by show (l : ℕ) = 1 * 64 + l % 64; omega))

/-- A product over 128 lanes with an operand laid out for head `p` is the product over that head's lanes. -/
theorem dot_on {p g : Fin 2} {K : FVec Ideal S256x128 .bf16} {A : Fin 256 → Fin 128 → EReal} (h : OnHead p g K A)
    (q : Fin 128 → EReal) (j : Fin 256) :
    ∑ e, q e * K (ix2 j e)
      = ∑ e : Fin 64, q ⟨p * 64 + e, by omega⟩ * A j ⟨g * 64 + e, by omega⟩ := by
  rw [sum_half p _ fun l hl => by rw [h j l, if_neg hl, mul_zero]]
  refine Finset.sum_congr rfl fun e _ => ?_
  rw [h, if_pos (by show ((p : ℕ) * 64 + e) / 64 = p; omega)]
  exact congrArg _ (congrArg _ (Fin.ext (by show (g : ℕ) * 64 + ((p : ℕ) * 64 + e) % 64 = g * 64 + e; omega)))

/-- A row's scores against group `g`'s turned keys, the query on head `p`'s lanes. -/
def score (p g : Fin 2) (q : Fin 128 → EReal) (A : Fin 256 → Fin 128 → EReal) (ok : Fin 256 → BitVec 1)
    (j : Fin 256) : EReal :=
  Scalar.select (ok j)
    ((∑ e : Fin 64, q ⟨p * 64 + e, by omega⟩ * A j ⟨g * 64 + e, by omega⟩) * Ideal.ofBits FTy.f32 0x3E000000#32) ⊥

/-- THE TILE at row `r`, lane `p * 64 + d`: head `p`'s attention over group `g`. -/
theorem pair_head {g : Fin 2} (q : FVec Ideal S128x128 .bf16) {kl kr vl vr : FVec Ideal S256x128 .bf16}
    {A B : Fin 256 → Fin 128 → EReal} (hkl : OnHead 0 g kl A) (hkr : OnHead 1 g kr A) (hvl : OnHead 0 g vl B)
    (hvr : OnHead 1 g vr B) (ok : IVec S128x256 1) (s : Fin 2 → EReal) (r : Fin 128) (p : Fin 2) (d : Fin 64) :
    PAIR q kl kr vl vr ok (s 0) (s 1) (ix2 r ⟨p * 64 + d, by omega⟩)
      = attend (score p g (fun e => q (ix2 r e)) A fun j => ok (ix2 r j)) (s p)
          (fun j => B j ⟨g * 64 + d, by omega⟩) := by
  have side (p' : Fin 2) {V : FVec Ideal S256x128 .bf16} (hV : OnHead p' g V B) (hp : p ≠ p') (j : Fin 256) :
      V (ix2 j ⟨p * 64 + d, by omega⟩) = 0 := by
    rw [hV, if_neg (by show ¬((p : ℕ) * 64 + d) / 64 = p'; have := Fin.val_ne_of_ne hp; omega)]
  have own (V : FVec Ideal S256x128 .bf16) (hV : OnHead p g V B) (j : Fin 256) :
      V (ix2 j ⟨p * 64 + d, by omega⟩) = B j ⟨g * 64 + d, by omega⟩ := by
    rw [hV, if_pos (by show ((p : ℕ) * 64 + d) / 64 = p; omega)]
    exact congrArg _ (Fin.ext (by show (g : ℕ) * 64 + ((p : ℕ) * 64 + d) % 64 = g * 64 + d; omega))
  rw [pair_at]
  simp only [dot_on hkl, dot_on hkr]
  obtain rfl | rfl : p = 0 ∨ p = 1 := by omega
  · rw [attend_zero _ _ _ (side 1 hvr (by decide)), add_zero]
    simp only [own vl hvl]
    rfl
  · rw [attend_zero _ _ _ (side 0 hvl (by decide)), zero_add]
    simp only [own vr hvr]
    rfl

end Cert.Attn

end
-- ==== Proof.Attn.Ref.lean ====
/- The reference read at an index: the turned queries and keys, the banded keys and values, and one output
   element as an attention row. -/
module

public import proofs.«01_k».proof.Proof.Gen.ReferenceIdeal.Read
public import proofs.«01_k».proof.Proof.Attn.Math

@[expose] public section

set_option maxRecDepth 16384

noncomputable section

namespace Cert.Attn.Ref

open Cert.ReferenceIdeal Cert.ReferenceIdeal.Gen Cert.ReferenceIdeal.Read Idealize.ShloMosaic Idealize.ShloMosaic.TcCoe

/-- The rotary frequency of a lane. -/
def inv (e : Fin 32) : EReal := val_main_v6 (F := Ideal) (ix1 e)

/-- The angle of a position at a lane. -/
def ang (X3 : IVec S4096 32) (s : Fin 4096) (e : Fin 32) : EReal :=
  (FloatOps.sitofp .f32 (X3 (ix1 s)) : Ideal .f32) * inv e

/-- A query head's lane is the turn of the row's 64 lanes of that head. -/
theorem q_at (X0 : FVec Ideal S4096x1024 .f32) (X3 : IVec S4096 32) (s : Fin 4096) (h : Fin 16) (d : Fin 64) :
    val_main_v29 (F := Ideal) X0 X3 (ix3 s h d)
      = turn (fun e => X0 (ix2 s ⟨h * 64 + e, by omega⟩)) (ang X3 s) d := by
  pointwise [val_main_v29, val_main_v28, val_main_v27, val_main_v26, val_main_v25, val_main_v24, val_main_v23,
    val_main_v22, val_main_v21, val_main_v20, val_main_v19, val_main_v18, val_main_v17, val_main_v16,
    val_main_v15, val_main_v14, val_main_v13, val_main_v12, val_main_v11, val_main_v10, val_main_v9,
    val_main_v8, val_main_v7, val_main_v0]
  by_cases hd : (d : ℕ) < 32
  · simp only [turn, dif_pos hd]
    rw [show (⟨h * 64 + (32 + d), by omega⟩ : Fin 1024) = ⟨h * 64 + (d + 32), by omega⟩ from
      Fin.ext (show (h : ℕ) * 64 + (32 + (d : ℕ)) = h * 64 + (d + 32) by omega)]
    rfl
  · simp only [turn, dif_neg hd]
    rw [show (⟨h * 64 + (32 + (d - 32)), by omega⟩ : Fin 1024) = ⟨h * 64 + d, by omega⟩ from
      Fin.ext (show (h : ℕ) * 64 + (32 + ((d : ℕ) - 32)) = h * 64 + d by omega)]
    rfl

/-- A key head's lane is the turn of the row's 64 lanes of that head. -/
theorem k_at (X1 : FVec Ideal S4096x128 .f32) (X3 : IVec S4096 32) (s : Fin 4096) (g : Fin 2) (d : Fin 64) :
    val_main_v59 (F := Ideal) X1 X3 (ix3 s g d)
      = turn (fun e => X1 (ix2 s ⟨g * 64 + e, by omega⟩)) (ang X3 s) d := by
  pointwise [val_main_v59, val_main_v58, val_main_v57, val_main_v56, val_main_v55, val_main_v54, val_main_v53,
    val_main_v52, val_main_v51, val_main_v50, val_main_v49, val_main_v48, val_main_v47, val_main_v46,
    val_main_v45, val_main_v44, val_main_v43, val_main_v42, val_main_v41, val_main_v40, val_main_v39,
    val_main_v38, val_main_v37, val_main_v30]
  by_cases hd : (d : ℕ) < 32
  · simp only [turn, dif_pos hd]
    rw [show (⟨g * 64 + (32 + d), by omega⟩ : Fin 128) = ⟨g * 64 + (d + 32), by omega⟩ from
      Fin.ext (show (g : ℕ) * 64 + (32 + (d : ℕ)) = g * 64 + (d + 32) by omega)]
    rfl
  · simp only [turn, dif_neg hd]
    rw [show (⟨g * 64 + (32 + (d - 32)), by omega⟩ : Fin 128) = ⟨g * 64 + d, by omega⟩ from
      Fin.ext (show (g : ℕ) * 64 + (32 + ((d : ℕ) - 32)) = g * 64 + d by omega)]
    rfl

/-- The turned key `j` of block `n`: the first 128 are those of the block before, zeros before the first. -/
def keys (X1 : FVec Ideal S4096x128 .f32) (X3 : IVec S4096 32) (n : Fin 32) (g : Fin 2) (j : Fin 256) (d : Fin 64) :
    EReal :=
  if h : (j : ℕ) < 128 then
    if h0 : 1 ≤ (n : ℕ) then
      turn (fun e => X1 (ix2 ⟨(n - 1) * 128 + j, by omega⟩ ⟨g * 64 + e, by omega⟩))
        (ang X3 ⟨(n - 1) * 128 + j, by omega⟩) d
    else 0
  else turn (fun e => X1 (ix2 ⟨n * 128 + (j - 128), by omega⟩ ⟨g * 64 + e, by omega⟩))
    (ang X3 ⟨n * 128 + (j - 128), by omega⟩) d

/-- The value `j` of block `n`, likewise. -/
def vals (X2 : FVec Ideal S4096x128 .bf16) (n : Fin 32) (g : Fin 2) (j : Fin 256) (d : Fin 64) : EReal :=
  if h : (j : ℕ) < 128 then
    if h0 : 1 ≤ (n : ℕ) then X2 (ix2 ⟨(n - 1) * 128 + j, by omega⟩ ⟨g * 64 + d, by omega⟩) else 0
  else X2 (ix2 ⟨n * 128 + (j - 128), by omega⟩ ⟨g * 64 + d, by omega⟩)

/-- The integer 0 reads as the number 0. -/
theorem sitofp_zero : (FloatOps.sitofp .f32 0#32 : Ideal .f32) = (0 : EReal) := by
  show ((((0#32 : BitVec 32).toInt : ℝ)) : EReal) = 0
  simp

theorem kband_at (X1 : FVec Ideal S4096x128 .f32) (X3 : IVec S4096 32) (n : Fin 32) (g : Fin 2) (j : Fin 256)
    (d : Fin 64) : val_main_v66 (F := Ideal) X1 X3 (ix4 n j g d) = keys X1 X3 n g j d := by
  pointwise [val_main_v66, val_main_v65, val_main_v64, val_main_v63, val_main_call0_v0, val_main_c]
  by_cases h : (j : ℕ) < 128
  · by_cases h0 : 1 ≤ (n : ℕ)
    · have h1 : (1 ≤ (n : ℕ) ∧ (n : ℕ) - 1 < 32) ∧ (j : ℕ) < 128 := by omega
      simp only [keys, dif_pos h, dif_pos h0, dif_pos h1, k_at]
    · have h1 : ¬((1 ≤ (n : ℕ) ∧ (n : ℕ) - 1 < 32) ∧ (j : ℕ) < 128) := by omega
      simp only [keys, dif_pos h, dif_neg h0, dif_neg h1, sitofp_zero]
  · simp only [keys, dif_neg h, k_at]

theorem vband_at (X2 : FVec Ideal S4096x128 .bf16) (n : Fin 32) (g : Fin 2) (j : Fin 256)
    (d : Fin 64) : val_main_v70 (F := Ideal) X2 (ix4 n j g d) = vals X2 n g j d := by
  pointwise [val_main_v70, val_main_v69, val_main_v68, val_main_v67, val_main_v61, val_main_v60, val_main_call1_v0, val_main_c_3]
  by_cases h : (j : ℕ) < 128
  · by_cases h0 : 1 ≤ (n : ℕ)
    · have h1 : (1 ≤ (n : ℕ) ∧ (n : ℕ) - 1 < 32) ∧ (j : ℕ) < 128 := by omega
      simp only [vals, dif_pos h, dif_pos h0, dif_pos h1]
    · have h1 : ¬((1 ≤ (n : ℕ) ∧ (n : ℕ) - 1 < 32) ∧ (j : ℕ) < 128) := by omega
      simp only [vals, dif_pos h, dif_neg h0, dif_neg h1, sitofp_zero]
  · simp only [vals, dif_neg h]

/-- Which keys a row may see: the 128 up to its own, and no earlier block before the first. -/
def seen (n : Fin 32) (r : Fin 128) (j : Fin 256) : BitVec 1 :=
  IntOp.andi
    (IntOp.andi (IntOp.cmpi CmpIPredicate.sge (IntOp.subi (IntOp.addi (BitVec.ofNat 32 r) 128#32) (BitVec.ofNat 32 j)) 0#32)
      (IntOp.cmpi CmpIPredicate.slt (IntOp.subi (IntOp.addi (BitVec.ofNat 32 r) 128#32) (BitVec.ofNat 32 j)) 128#32))
    (IntOp.ori (IntOp.cmpi CmpIPredicate.sgt (BitVec.ofNat 32 n) 0#32)
      (IntOp.cmpi CmpIPredicate.sge (BitVec.ofNat 32 j) 128#32))

/-- The bits `0xFF800000` are minus infinity. -/
theorem neg_inf : Ideal.ofBits FTy.f32 0xFF800000#32 = ⊥ := by
  simp [Ideal.ofBits, Ideal.ieee]

/-- The masked scores of a row of a head. -/
def sc (X0 : FVec Ideal S4096x1024 .f32) (X1 : FVec Ideal S4096x128 .f32) (X3 : IVec S4096 32)
    (n : Fin 32) (g : Fin 2) (h : Fin 8) (r : Fin 128) (j : Fin 256) : EReal :=
  Scalar.select (seen n r j)
    ((∑ e : Fin 64, turn (fun e => X0 (ix2 ⟨n * 128 + r, by omega⟩ ⟨(g * 8 + h) * 64 + e, by omega⟩))
      (ang X3 ⟨n * 128 + r, by omega⟩) e * keys X1 X3 n g j e) * Ideal.ofBits FTy.f32 0x3E000000#32) ⊥

theorem sc_at (X0 : FVec Ideal S4096x1024 .f32) (X1 : FVec Ideal S4096x128 .f32)
    (X3 : IVec S4096 32) (n : Fin 32) (g : Fin 2) (h : Fin 8) (r : Fin 128) (j : Fin 256) :
    val_main_v104 (F := Ideal) X0 X1 X3 (ix5 n g h r j) = sc X0 X1 X3 n g h r j := by
  pointwise [val_main_v104, val_main_call2_v1, val_main_call2_v2, val_main_call2_v0, val_main_cst_10,
    val_main_v103, val_main_v102, val_main_v101, val_main_v100, val_main_v99, val_main_v98, val_main_v97,
    val_main_v96, val_main_v95, val_main_v94, val_main_v93, val_main_v92, val_main_v91, val_main_v90,
    val_main_v89, val_main_v88, val_main_v87, val_main_v86, val_main_v85, val_main_v84, val_main_v83,
    val_main_v82, val_main_v81, val_main_v80, val_main_v79, val_main_v78, val_main_v77, val_main_v76,
    val_main_v75, val_main_v74, val_main_v73, val_main_v72, val_main_v71, val_main_v62, val_main_cst_4,
    val_main_c_5, val_main_c_6, val_main_c_7, val_main_c_8, val_main_c_9]
  rw [sc, seen]
  congr 2
  refine Finset.sum_congr rfl fun e _ => ?_
  rw [kband_at, q_at, mul_comm]

end Cert.Attn.Ref

end
-- ==== Proof.Attn.RefOut.lean ====
/- The reference's attention read at an index: the rows' maxima and totals, and one output element. -/
module

public import proofs.«01_k».proof.Proof.Attn.Ref

@[expose] public section

set_option maxRecDepth 16384

noncomputable section

namespace Cert.Attn.Ref

open Cert.ReferenceIdeal Cert.ReferenceIdeal.Gen Cert.ReferenceIdeal.Read Idealize.ShloMosaic Idealize.ShloMosaic.TcCoe

theorem fold_at (X0 : FVec Ideal S4096x1024 .f32) (X1 : FVec Ideal S4096x128 .f32) (X3 : IVec S4096 32)
    (n : Fin 32) (g : Fin 2) (h : Fin 8) (r : Fin 128) :
    val_main_v107 (F := Ideal) X0 X1 X3 (ix4 n g h r)
      = Finset.fold max (Ideal.ofBits FTy.f32 0xFF800000#32) (fun j => val_main_v104 (F := Ideal) X0 X1 X3 (ix5 n g h r j)) Finset.univ := by
  rw [val_main_v107]
  generalize val_main_v104 (F := Ideal) X0 X1 X3 = y
  pointwise [val_main_cst_11]

theorem sink_at (X4 : FVec Ideal S16 .f32) (n : Fin 32) (g : Fin 2) (h : Fin 8) (r : Fin 128) :
    val_main_v109 (F := Ideal) X4 (ix5 n g h r 0) = X4 (ix1 ⟨g * 8 + h, by omega⟩) := by
  pointwise [val_main_v109, val_main_v106, val_main_v105]

theorem col_at (X0 : FVec Ideal S4096x1024 .f32) (X1 : FVec Ideal S4096x128 .f32) (X3 : IVec S4096 32)
    (n : Fin 32) (g : Fin 2) (h : Fin 8) (r : Fin 128) :
    val_main_v108 (F := Ideal) X0 X1 X3 (ix5 n g h r 0) = val_main_v107 (F := Ideal) X0 X1 X3 (ix4 n g h r) := by
  rw [val_main_v108]
  generalize val_main_v107 (F := Ideal) X0 X1 X3 = y
  pointwise

/-- A row's largest score, its sink counted. -/
theorem top_at (X0 : FVec Ideal S4096x1024 .f32) (X1 : FVec Ideal S4096x128 .f32) (X3 : IVec S4096 32)
    (X4 : FVec Ideal S16 .f32) (n : Fin 32) (g : Fin 2) (h : Fin 8) (r : Fin 128) :
    val_main_v110 (F := Ideal) X0 X1 X3 X4 (ix5 n g h r 0)
      = top (sc X0 X1 X3 n g h r) (X4 (ix1 ⟨g * 8 + h, by omega⟩)) := by
  have e : (fun j => val_main_v104 (F := Ideal) X0 X1 X3 (ix5 n g h r j)) = sc X0 X1 X3 n g h r :=
    funext fun j => sc_at X0 X1 X3 n g h r j
  rw [val_main_v110_apply, sink_at, col_at, fold_at, e]
  exact rfl

theorem exp_at (X0 : FVec Ideal S4096x1024 .f32) (X1 : FVec Ideal S4096x128 .f32) (X3 : IVec S4096 32)
    (X4 : FVec Ideal S16 .f32) (n : Fin 32) (g : Fin 2) (h : Fin 8) (r : Fin 128) (j : Fin 256) :
    val_main_v113 (F := Ideal) X0 X1 X3 X4 (ix5 n g h r j)
      = Ideal.exp (sc X0 X1 X3 n g h r j - top (sc X0 X1 X3 n g h r) (X4 (ix1 ⟨g * 8 + h, by omega⟩))) := by
  pointwise [val_main_v113, val_main_v112, val_main_v111]
  rw [sc_at, top_at]

theorem total_at (X0 : FVec Ideal S4096x1024 .f32) (X1 : FVec Ideal S4096x128 .f32) (X3 : IVec S4096 32)
    (X4 : FVec Ideal S16 .f32) (n : Fin 32) (g : Fin 2) (h : Fin 8) (r : Fin 128) :
    val_main_v119 (F := Ideal) X0 X1 X3 X4 (ix5 n g h r 0)
      = total (sc X0 X1 X3 n g h r) (X4 (ix1 ⟨g * 8 + h, by omega⟩)) := by
  pointwise [val_main_v119, val_main_v118, val_main_v117, val_main_v116, val_main_v115, val_main_v114, val_main_v106, val_main_v105, val_main_cst_12]
  simp only [exp_at, top_at, total]

/-- One output element of the reference. -/
theorem out_at (X0 : FVec Ideal S4096x1024 .f32) (X1 : FVec Ideal S4096x128 .f32)
    (X2 : FVec Ideal S4096x128 .bf16) (X3 : IVec S4096 32) (X4 : FVec Ideal S16 .f32)
    (n : Fin 32) (g : Fin 2) (h : Fin 8) (r : Fin 128) (d : Fin 64) (R : Fin 4096) (l : Fin 1024)
    (hR : (R : ℕ) = n * 128 + r) (hl : (l : ℕ) = (g * 8 + h) * 64 + d) :
    val_main_v125 (F := Ideal) X0 X1 X2 X3 X4 (ix2 R l)
      = attend (sc X0 X1 X3 n g h r) (X4 (ix1 ⟨g * 8 + h, by omega⟩)) (fun j => vals X2 n g j d) := by
  have e1 : (⟨R / 128, by omega⟩ : Fin 32) = n := Fin.ext (show (R : ℕ) / 128 = n by omega)
  have e2 : (⟨R % 128, by omega⟩ : Fin 128) = r := Fin.ext (show (R : ℕ) % 128 = r by omega)
  have e3 : (⟨l / 512, by omega⟩ : Fin 2) = g := Fin.ext (show (l : ℕ) / 512 = g by omega)
  have e4 : (⟨l / 64 % 8, by omega⟩ : Fin 8) = h := Fin.ext (show (l : ℕ) / 64 % 8 = h by omega)
  have e5 : (⟨l % 64, by omega⟩ : Fin 64) = d := Fin.ext (show (l : ℕ) % 64 = d by omega)
  pointwise [val_main_v125, val_main_v124, val_main_v123, val_main_v122, val_main_v121, val_main_v120]
  simp only [e1, e2, e3, e4, e5, vband_at, exp_at, total_at]
  exact Finset.sum_congr rfl fun j _ => mul_comm _ _

end Cert.Attn.Ref

end
-- ==== Proof.Attn.Mask.lean ====
/- The kernel's mask is the reference's. -/
module

public import proofs.«01_k».proof.Proof.Attn.Block
public import proofs.«01_k».proof.Proof.Attn.RefOut

@[expose] public section

set_option maxRecDepth 16384

noncomputable section

namespace Cert.Attn

open Cert.KernelIdeal Cert.KernelIdeal.Gen Idealize.ShloMosaic Idealize.ShloMosaic.TcCoe

/-- Both ways of asking whether key `j` lies in the window of row `r`. -/
theorem window_eq : ∀ (r : Fin 128) (j : Fin 256),
    IntOp.andi (IntOp.cmpi CmpIPredicate.sgt (BitVec.ofNat 32 j) (BitVec.ofNat 32 r))
        (IntOp.cmpi CmpIPredicate.sle (BitVec.ofNat 32 j) (IntOp.addi (BitVec.ofNat 32 r) 128#32))
      = IntOp.andi (IntOp.cmpi CmpIPredicate.sge (IntOp.subi (IntOp.addi (BitVec.ofNat 32 r) 128#32) (BitVec.ofNat 32 j)) 0#32)
        (IntOp.cmpi CmpIPredicate.slt (IntOp.subi (IntOp.addi (BitVec.ofNat 32 r) 128#32) (BitVec.ofNat 32 j)) 128#32) := by
  decide +kernel

/-- The kernel's mask is the reference's. -/
theorem mask_eq (n : Fin 32) (r : Fin 128) (j : Fin 256) :
    k0_pay25 (BitVec.ofNat 32 n) (ix2 r j) = Ref.seen n r j := by
  pointwise [k0_pay25]
  rw [Ref.seen, ← window_eq]
  refine congrArg _ ?_
  exact BitVec.or_comm _ _

/-- The first block sees no key before itself. -/
theorem seen_first : ∀ (r : Fin 128) (a : Fin 128), Ref.seen 0 r ⟨a, by omega⟩ = 0#1 := by
  decide +kernel

end Cert.Attn

end
-- ==== Proof.Attn.Join.lean ====
/- One 128x128 tile of the kernel against the reference: if the tile's inputs are the rows of block `n`, of the
   block before it, and the 128 columns of chunk `c`, then its outputs are the reference's. -/
module

public import proofs.«01_k».proof.Proof.Attn.Mask

@[expose] public section

set_option maxRecDepth 16384

noncomputable section

namespace Cert.Attn

open Cert.KernelIdeal Cert.KernelIdeal.Gen Idealize.ShloMosaic Idealize.ShloMosaic.TcCoe

/-- The positions' angles on 128 lanes are the reference's, which repeat every 32 lanes. -/
theorem ang_eq (B : IVec S128x1 32) (B8 : FVec Ideal S1x128 .f32) (X3 : IVec Cert.ReferenceIdeal.S4096 32)
    (h8 : ∀ l : Fin 128, B8 (ix2 0 l) = Ref.inv ⟨l % 32, by omega⟩) (r : Fin 128) (s : Fin 4096)
    (h : B (ix2 r 0) = X3 (ix1 s)) (l : Fin 128) : ang B B8 r l = Ref.ang X3 s ⟨l % 32, by omega⟩ := by
  rw [ang, Ref.ang, h, h8]

/-- A masked score is minus infinity. -/
theorem masked (x : EReal) : Scalar.select 0#1 x (⊥ : EReal) = ⊥ := rfl

/-- What the tile of block `n` and chunk `c` reads: the block's rows and the rows of the block before (for the
    first block, its own once more). -/
structure Reads (X0 : FVec Ideal Cert.ReferenceIdeal.S4096x1024 .f32) (X1 : FVec Ideal Cert.ReferenceIdeal.S4096x128 .f32)
    (X2 : FVec Ideal Cert.ReferenceIdeal.S4096x128 .bf16) (X3 : IVec Cert.ReferenceIdeal.S4096 32)
    (X4 : FVec Ideal Cert.ReferenceIdeal.S16 .f32) (n : Fin 32) (c : Fin 8)
    (B2 B3 : FVec Ideal S128x128 .f32) (B4 B5 : FVec Ideal S128x128 .bf16) (B6 B7 : IVec S128x1 32)
    (B8 : FVec Ideal S1x128 .f32) (xq : FVec Ideal S128x128 .f32) (s : Fin 2 → EReal) : Prop where
  q : ∀ r l : Fin 128, xq (ix2 r l) = X0 (ix2 ⟨n * 128 + r, by omega⟩ ⟨c * 128 + l, by omega⟩)
  kc : ∀ r l : Fin 128, B2 (ix2 r l) = X1 (ix2 ⟨n * 128 + r, by omega⟩ l)
  kp : ∀ r l : Fin 128, B3 (ix2 r l) = X1 (ix2 ⟨(n - 1) * 128 + r, by omega⟩ l)
  vc : ∀ r l : Fin 128, B4 (ix2 r l) = X2 (ix2 ⟨n * 128 + r, by omega⟩ l)
  vp : ∀ r l : Fin 128, B5 (ix2 r l) = X2 (ix2 ⟨(n - 1) * 128 + r, by omega⟩ l)
  pc : ∀ r : Fin 128, B6 (ix2 r 0) = X3 (ix1 ⟨n * 128 + r, by omega⟩)
  pp : ∀ r : Fin 128, B7 (ix2 r 0) = X3 (ix1 ⟨(n - 1) * 128 + r, by omega⟩)
  inv : ∀ l : Fin 128, B8 (ix2 0 l) = Ref.inv ⟨l % 32, by omega⟩
  sink : ∀ p : Fin 2, s p = X4 (ix1 ⟨c * 2 + p, by omega⟩)

section
variable {X0 : FVec Ideal Cert.ReferenceIdeal.S4096x1024 .f32} {X1 : FVec Ideal Cert.ReferenceIdeal.S4096x128 .f32}
  {X2 : FVec Ideal Cert.ReferenceIdeal.S4096x128 .bf16} {X3 : IVec Cert.ReferenceIdeal.S4096 32}
  {X4 : FVec Ideal Cert.ReferenceIdeal.S16 .f32} {n : Fin 32} {c : Fin 8}
  {B2 B3 : FVec Ideal S128x128 .f32} {B4 B5 : FVec Ideal S128x128 .bf16} {B6 B7 : IVec S128x1 32}
  {B8 : FVec Ideal S1x128 .f32} {xq : FVec Ideal S128x128 .f32} {s : Fin 2 → EReal}

/-- The tile's turned keys are the reference's, where the block before exists or is not asked for. -/
theorem Reads.keys (H : Reads X0 X1 X2 X3 X4 n c B2 B3 B4 B5 B6 B7 B8 xq s) (g : Fin 2) (j : Fin 256)
    (hj : 128 ≤ (j : ℕ) ∨ 1 ≤ (n : ℕ)) (e : Fin 64) :
    kall B2 B3 B6 B7 B8 j ⟨g * 64 + e, by omega⟩ = Ref.keys X1 X3 n g j e := by
  by_cases h : (j : ℕ) < 128
  · have h0 : 1 ≤ (n : ℕ) := by omega
    simp only [kall, Ref.keys, dif_pos h, dif_pos h0]
    rw [turn2_eq _ _ (Ref.ang X3 ⟨(n - 1) * 128 + j, by omega⟩) g e (ang_eq B7 B8 X3 H.inv _ _ (H.pp ⟨j, h⟩))]
    simp only [H.kp]
  · simp only [kall, Ref.keys, dif_neg h]
    rw [turn2_eq _ _ (Ref.ang X3 ⟨n * 128 + (j - 128), by omega⟩) g e
      (ang_eq B6 B8 X3 H.inv _ _ (H.pc ⟨j - 128, by omega⟩))]
    simp only [H.kc]

/-- The tile's values are the reference's, likewise. -/
theorem Reads.vals (H : Reads X0 X1 X2 X3 X4 n c B2 B3 B4 B5 B6 B7 B8 xq s) (g : Fin 2) (j : Fin 256)
    (hj : 128 ≤ (j : ℕ) ∨ 1 ≤ (n : ℕ)) (d : Fin 64) :
    vall B4 B5 j ⟨g * 64 + d, by omega⟩ = Ref.vals X2 n g j d := by
  by_cases h : (j : ℕ) < 128
  · have h0 : 1 ≤ (n : ℕ) := by omega
    simp only [vall, Ref.vals, dif_pos h, dif_pos h0, H.vp]
  · simp only [vall, Ref.vals, dif_neg h, H.vc]

/-- The tile's turned queries are the reference's. -/
theorem Reads.queries (H : Reads X0 X1 X2 X3 X4 n c B2 B3 B4 B5 B6 B7 B8 xq s) (r : Fin 128) (p : Fin 2) (e : Fin 64)
    (g : Fin 2) (h : Fin 8) (hc : (c : ℕ) * 2 + p = g * 8 + h) :
    QT B6 B8 xq (ix2 r ⟨p * 64 + e, by omega⟩)
      = turn (fun e => X0 (ix2 ⟨n * 128 + r, by omega⟩ ⟨(g * 8 + h) * 64 + e, by omega⟩))
          (Ref.ang X3 ⟨n * 128 + r, by omega⟩) e := by
  rw [qt_at, turn2_eq _ _ (Ref.ang X3 ⟨n * 128 + r, by omega⟩) p e (ang_eq B6 B8 X3 H.inv _ _ (H.pc r))]
  have e : (fun e : Fin 64 => xq (ix2 r ⟨p * 64 + e, by omega⟩))
      = fun e : Fin 64 => X0 (ix2 ⟨n * 128 + r, by omega⟩ ⟨(g * 8 + h) * 64 + e, by omega⟩) := by
    funext e
    rw [H.q]
    have e1 : (⟨c * 128 + (p * 64 + e), by omega⟩ : Fin 1024) = ⟨(g * 8 + h) * 64 + e, by omega⟩ :=
      Fin.ext (show (c : ℕ) * 128 + (p * 64 + e) = (g * 8 + h) * 64 + e by omega)
    exact congrArg (fun l => X0 (ix2 _ l)) e1
  rw [e]

/-- The tile's masked scores are the reference's. -/
theorem Reads.scores (H : Reads X0 X1 X2 X3 X4 n c B2 B3 B4 B5 B6 B7 B8 xq s) (r : Fin 128) (p : Fin 2)
    (g : Fin 2) (h : Fin 8) (hc : (c : ℕ) * 2 + p = g * 8 + h) (j : Fin 256) :
    score p g (fun e => QT B6 B8 xq (ix2 r e)) (kall B2 B3 B6 B7 B8)
        (fun j => k0_pay25 (BitVec.ofNat 32 n) (ix2 r j)) j
      = Ref.sc X0 X1 X3 n g h r j := by
  rw [score, Ref.sc, mask_eq]
  by_cases hj : 128 ≤ (j : ℕ) ∨ 1 ≤ (n : ℕ)
  · simp only [H.queries r p _ g h hc, H.keys g j hj]
  · obtain rfl : n = 0 := Fin.ext (show (n : ℕ) = 0 by omega)
    have e : Ref.seen 0 r j = 0#1 := seen_first r ⟨j, by omega⟩
    rw [e]
    exact (masked _).trans (masked _).symm

/-- THE TILE: its attention is the reference's output. -/
theorem Reads.tile (H : Reads X0 X1 X2 X3 X4 n c B2 B3 B4 B5 B6 B7 B8 xq s) (r : Fin 128) (p : Fin 2) (d : Fin 64)
    (g : Fin 2) (h : Fin 8) (hc : (c : ℕ) * 2 + p = g * 8 + h) (R : Fin 4096) (l : Fin 1024)
    (hR : (R : ℕ) = n * 128 + r) (hl : (l : ℕ) = c * 128 + (p * 64 + d)) :
    attend (score p g (fun e => QT B6 B8 xq (ix2 r e)) (kall B2 B3 B6 B7 B8)
        (fun j => k0_pay25 (BitVec.ofNat 32 n) (ix2 r j))) (s p) (fun j => vall B4 B5 j ⟨g * 64 + d, by omega⟩)
      = Cert.ReferenceIdeal.Read.val_main_v125 (F := Ideal) X0 X1 X2 X3 X4 (ix2 R l) := by
  rw [Ref.out_at X0 X1 X2 X3 X4 n g h r d R l hR (by omega),
    funext (H.scores r p g h hc), H.sink,
    show (⟨c * 2 + p, by omega⟩ : Fin 16) = ⟨g * 8 + h, by omega⟩ from Fin.ext hc]
  by_cases hn : 1 ≤ (n : ℕ)
  · simp only [H.vals g _ (.inr hn)]
  · obtain rfl : n = 0 := Fin.ext (show (n : ℕ) = 0 by omega)
    refine attend_first _ _ _ _ (fun a => ?_) (fun a => ?_) (fun a => ?_) fun a => ?_
    · rw [Ref.sc, seen_first r a]
      exact masked _
    · have h1 : (a : ℕ) < 128 := a.isLt
      have h0 : ¬1 ≤ ((0 : Fin 32) : ℕ) := by decide
      simp only [Ref.vals, dif_pos h1, dif_neg h0]
    · exact H.vals g ⟨128 + a, by omega⟩ (.inl (Nat.le_add_right _ _)) d
    · have h1 : (a : ℕ) < 128 := a.isLt
      have h2 : ¬(128 + (a : ℕ)) < 128 := by omega
      simp only [vall, dif_pos h1, dif_neg h2, H.vp, H.vc]
      refine congrArg (fun i => X2 (ix2 i _)) (Fin.ext ?_)
      show (0 - 1) * 128 + (a : ℕ) = 0 * 128 + (128 + a - 128)
      omega

end

end Cert.Attn

end
-- ==== Proof.Attn.Final.lean ====
/- The attention's output array: what the kernel's windows read at each grid point, and the array it leaves. -/
module

public import proofs.«01_k».proof.Proof.Gen.KernelIdeal.Value
public import proofs.«01_k».proof.Proof.Attn.Join
public import Idealize.ShloMosaic.Lib.Pipeline.ValueKit
public import Idealize.ShloMosaic.Lib.Claim

@[expose] public section

set_option maxRecDepth 16384

noncomputable section

namespace Cert.Attn

open Cert.KernelIdeal Cert.KernelIdeal.Gen Idealize.ShloMosaic Idealize.ShloMosaic.TcCoe

/-- The blocks of a grid point: the current one, and the one before (the first once more at the first point). -/
theorem idx : ∀ t : Fin cfg0.N, win0_0.index t = ![0] ∧ win0_1.index t = ![t.val, 0] ∧ win0_2.index t = ![t.val, 0] ∧ win0_3.index t = ![t.val - 1, 0]
    ∧ win0_4.index t = ![t.val, 0] ∧ win0_5.index t = ![t.val - 1, 0] ∧ win0_6.index t = ![t.val, 0]
    ∧ win0_7.index t = ![t.val - 1, 0] ∧ win0_8.index t = ![0, 0] ∧ win0_9.index t = ![t.val, 0]
    ∧ grid0.coords t 1 = t.val :=
  (by decide +kernel : ∀ t : Fin grid0.N, _)

variable (m : (ℓ : Loc nD τ sig) → Buf (Elt Ideal) ℓ)

theorem pos_entry (c : Dev nD) (s : Fin 4096) :
    V m c main_v10 (ix2 s 0) = m ((c : Thread nD τ).loc main_arg3) (ix1 s) := by
  entry_read
  pointwise

theorem inv_entry (c : Dev nD) (l : Fin 128) :
    V m c main_v9 (ix2 0 l) = Ref.inv ⟨l % 32, by omega⟩ := by
  entry_read
  pointwise [Ref.inv, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_cst, Cert.ReferenceIdeal.Read.val_main_cst_0]

/-- The arguments of a device. -/
abbrev A0 (c : Dev nD) : FVec Ideal Cert.ReferenceIdeal.S4096x1024 .f32 := m ((c : Thread nD τ).loc main_arg0)
abbrev A1 (c : Dev nD) : FVec Ideal Cert.ReferenceIdeal.S4096x128 .f32 := m ((c : Thread nD τ).loc main_arg1)
abbrev A2 (c : Dev nD) : FVec Ideal Cert.ReferenceIdeal.S4096x128 .bf16 := m ((c : Thread nD τ).loc main_arg2)
abbrev A3 (c : Dev nD) : IVec Cert.ReferenceIdeal.S4096 32 := m ((c : Thread nD τ).loc main_arg3)
abbrev A4 (c : Dev nD) : FVec Ideal Cert.ReferenceIdeal.S16 .f32 := m ((c : Thread nD τ).loc main_arg4)

/-- What a grid point reads: the windows hold the rows of block `n = t` and of the block before it. -/
theorem reads (c : Dev nD) (t : Fin cfg0.N) (n : Fin 32) (hn : n.val = t.val) (k : Fin 8)
    (xq : FVec Ideal S128x128 .f32) (s : Fin 2 → EReal)
    (hq : ∀ r l : Fin 128, xq (ix2 r l) = iblk m c 1 t (ix2 r ⟨k * 128 + l, by omega⟩))
    (hs : ∀ p : Fin 2, s p = iblk m c 0 t (ix1 ⟨k * 2 + p, by omega⟩)) :
    Reads (A0 m c) (A1 m c) (A2 m c) (A3 m c) (A4 m c) n k (iblk m c 2 t) (iblk m c 3 t) (iblk m c 4 t)
      (iblk m c 5 t) (iblk m c 6 t) (iblk m c 7 t) (iblk m c 8 t) xq s where
  q r l := by
    rw [hq]
    blk_point [iblk, V, idx t]
  kc r l := by blk_point [iblk, V, idx t]
  kp r l := by blk_point [iblk, V, idx t]
  vc r l := by blk_point [iblk, V, idx t]
  vp r l := by blk_point [iblk, V, idx t]
  pc r := by
    refine Eq.trans ?_ (pos_entry m c _)
    blk_point [iblk, idx t]
  pp r := by
    refine Eq.trans ?_ (pos_entry m c _)
    blk_point [iblk, idx t]
  inv l := by
    refine Eq.trans ?_ (inv_entry m c l)
    blk_point [iblk, idx t]
  sink p := by
    rw [hs]
    blk_point [iblk, V, idx t]

/-- A lane is a head and a lane of it. -/
theorem head_lane (l : Fin 128) : ∃ (p : Fin 2) (d : Fin 64), l = ⟨p * 64 + d, by omega⟩ :=
  ⟨⟨l / 64, by omega⟩, ⟨l % 64, by omega⟩, Fin.ext (show (l : ℕ) = l / 64 * 64 + l % 64 by omega)⟩

/-- Chunk `k`'s tile at a grid point, at one element of the tile: the reference's element it lands on. -/
theorem tile_at (c : Dev nD) (t : Fin cfg0.N) (k : Fin 8) (g : Fin 2) (hg : (g : ℕ) = k / 4)
    {kl kr vl vr : FVec Ideal S256x128 .bf16} (xq : FVec Ideal S128x128 .f32) (s0 s1 : EReal)
    (hkl : OnHead 0 g kl (kall (iblk m c 2 t) (iblk m c 3 t) (iblk m c 6 t) (iblk m c 7 t) (iblk m c 8 t)))
    (hkr : OnHead 1 g kr (kall (iblk m c 2 t) (iblk m c 3 t) (iblk m c 6 t) (iblk m c 7 t) (iblk m c 8 t)))
    (hvl : OnHead 0 g vl (vall (iblk m c 4 t) (iblk m c 5 t))) (hvr : OnHead 1 g vr (vall (iblk m c 4 t) (iblk m c 5 t)))
    (hq : ∀ r l : Fin 128, xq (ix2 r l) = iblk m c 1 t (ix2 r ⟨k * 128 + l, by omega⟩))
    (hs0 : s0 = iblk m c 0 t (ix1 ⟨k * 2 + (0 : Fin 2), by omega⟩))
    (hs1 : s1 = iblk m c 0 t (ix1 ⟨k * 2 + (1 : Fin 2), by omega⟩))
    (x : S128x128.Idx) (j : S4096x1024.Idx) (hj0 : (j 0 : ℕ) = t.val * 128 + x 0) (hj1 : (j 1 : ℕ) = k * 128 + x 1) :
    PAIR (F := Ideal) (QT (iblk m c 6 t) (iblk m c 8 t) xq) kl kr vl vr (k0_pay25 (BitVec.ofNat 32 ↑(grid0.coords t 1)))
        s0 s1 x
      = Cert.ReferenceIdeal.Read.val_main_v125 (F := Ideal) (A0 m c) (A1 m c) (A2 m c) (A3 m c) (A4 m c) j := by
  have ht : t.val < 32 := t.isLt
  idx_vars x
  idx_vars j
  have hn : ↑(grid0.coords t 1) = t.val := (idx t).2.2.2.2.2.2.2.2.2.2
  have H := reads m c t ⟨t.val, ht⟩ rfl k xq ![s0, s1] hq fun p => by
    match p with
    | 0 => exact hs0
    | 1 => exact hs1
  obtain ⟨p, d, rfl⟩ := head_lane x1
  have hw : BitVec.ofNat 32 ↑(grid0.coords t 1) = BitVec.ofNat 32 ((⟨t.val, ht⟩ : Fin 32) : ℕ) :=
    congrArg (BitVec.ofNat 32) hn
  rw [hw]
  refine (pair_head _ hkl hkr hvl hvr _ ![s0, s1] x0 p d).trans ?_
  exact H.tile x0 p d g ⟨k % 4 * 2 + p, by omega⟩ (show (k : ℕ) * 2 + p = g * 8 + (k % 4 * 2 + p) by omega) j0 j1 hj0 hj1

/-- The array the launch leaves is the reference's. -/
theorem final (c : Dev nD) : (dats m 0 c).arrAt 9 (cfgs 0).N
    = Cert.ReferenceIdeal.Read.val_main_v125 (F := Ideal) (A0 m c) (A1 m c) (A2 m c) (A3 m c) (A4 m c) := by
  refine (dats m 0 c).arrAt_eq_of_covers 9 _ (by decide +kernel) fun t _ y => ?_
  have ht : t.val < 32 := t.isLt
  have hn : grid0.coords t 1 = t.val := (idx t).2.2.2.2.2.2.2.2.2.2
  blk_simp
  rw [after0_9]
  unfold outsAt0
  frame_out
  canon_tiles x h
  case piece0 =>
    refine (congrFun (chunk7 ..) x).trans (tile_at m c t 7 1 (by decide) _ _ _ (kl1_on _ _ _ _ _) (kr1_on _ _ _ _ _) (vl1_on _ _) (vr1_on _ _)
      (fun r l => ?_) ?_ ?_ x _ ?_ ?_)
    · pointwise
      blk_ext
    · pointwise
      blk_ext
    · pointwise
      blk_ext
    all_goals (blk_simp [idx t] <;> try omega)
  case piece1 =>
    refine (congrFun (chunk6 ..) x).trans (tile_at m c t 6 1 (by decide) _ _ _ (kl1_on _ _ _ _ _) (kr1_on _ _ _ _ _) (vl1_on _ _) (vr1_on _ _)
      (fun r l => ?_) ?_ ?_ x _ ?_ ?_)
    · pointwise
      blk_ext
    · pointwise
      blk_ext
    · pointwise
      blk_ext
    all_goals (blk_simp [idx t] <;> try omega)
  case piece2 =>
    refine (congrFun (chunk5 ..) x).trans (tile_at m c t 5 1 (by decide) _ _ _ (kl1_on _ _ _ _ _) (kr1_on _ _ _ _ _) (vl1_on _ _) (vr1_on _ _)
      (fun r l => ?_) ?_ ?_ x _ ?_ ?_)
    · pointwise
      blk_ext
    · pointwise
      blk_ext
    · pointwise
      blk_ext
    all_goals (blk_simp [idx t] <;> try omega)
  case piece3 =>
    refine (congrFun (chunk4 ..) x).trans (tile_at m c t 4 1 (by decide) _ _ _ (kl1_on _ _ _ _ _) (kr1_on _ _ _ _ _) (vl1_on _ _) (vr1_on _ _)
      (fun r l => ?_) ?_ ?_ x _ ?_ ?_)
    · pointwise
      blk_ext
    · pointwise
      blk_ext
    · pointwise
      blk_ext
    all_goals (blk_simp [idx t] <;> try omega)
  case piece4 =>
    refine (congrFun (chunk3 ..) x).trans (tile_at m c t 3 0 (by decide) _ _ _ (kl0_on _ _ _ _ _) (kr0_on _ _ _ _ _) (vl0_on _ _) (vr0_on _ _)
      (fun r l => ?_) ?_ ?_ x _ ?_ ?_)
    · pointwise
      blk_ext
    · pointwise
      blk_ext
    · pointwise
      blk_ext
    all_goals (blk_simp [idx t] <;> try omega)
  case piece5 =>
    refine (congrFun (chunk2 ..) x).trans (tile_at m c t 2 0 (by decide) _ _ _ (kl0_on _ _ _ _ _) (kr0_on _ _ _ _ _) (vl0_on _ _) (vr0_on _ _)
      (fun r l => ?_) ?_ ?_ x _ ?_ ?_)
    · pointwise
      blk_ext
    · pointwise
      blk_ext
    · pointwise
      blk_ext
    all_goals (blk_simp [idx t] <;> try omega)
  case piece6 =>
    refine (congrFun (chunk1 ..) x).trans (tile_at m c t 1 0 (by decide) _ _ _ (kl0_on _ _ _ _ _) (kr0_on _ _ _ _ _) (vl0_on _ _) (vr0_on _ _)
      (fun r l => ?_) ?_ ?_ x _ ?_ ?_)
    · pointwise
      blk_ext
    · pointwise
      blk_ext
    · pointwise
      blk_ext
    all_goals (blk_simp [idx t] <;> try omega)
  case piece7 =>
    refine (congrFun (chunk0 ..) x).trans (tile_at m c t 0 0 (by decide) _ _ _ (kl0_on _ _ _ _ _) (kr0_on _ _ _ _ _) (vl0_on _ _) (vr0_on _ _)
      (fun r l => ?_) ?_ ?_ x _ ?_ ?_)
    · pointwise
      blk_ext
    · pointwise
      blk_ext
    · pointwise
      blk_ext
    all_goals (blk_simp [idx t] <;> try omega)

end Cert.Attn

end
-- ==== Proof.Attn.RefRun.lean ====
/- The attention's reference as a program: it runs, keeps its arguments, and returns its formula of them. -/
module

public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.Attn.Ref

open Cert.ReferenceIdeal Cert.ReferenceIdeal.Gen Cert.ReferenceIdeal.Read Idealize.ShloMosaic Idealize.ShloMosaic.TcCoe Idealize.SL.Sem

/-- The reference's result is its formula over any arrays its arguments equal. -/
theorem result (m : (ℓ : Loc nD τ sig) → Buf (Elt Ideal) ℓ) (c : Dev nD) (x0 : FVec Ideal S4096x1024 .f32)
    (x1 : FVec Ideal S4096x128 .f32) (x2 : FVec Ideal S4096x128 .bf16) (x3 : IVec S4096 32) (x4 : FVec Ideal S16 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) :
    Cert.ReferenceIdeal.Value.res_main_v125 m c = val_main_v125 (F := Ideal) x0 x1 x2 x3 x4 := by
  subst h0 h1 h2 h3 h4
  exact val_main_v125_eq m c

/-- The reference runs, its arguments unchanged and no semaphore counting. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  θ_run_mono (Cert.ReferenceIdeal.Value.run m g) fun r h =>
    ⟨fun c => (h c).2, sem_eq_zero_of_no_sems (by decide) r.2⟩

end Cert.Attn.Ref

end
-- ==== Proof.Inproj.Norm.lean ====
/- The normalised row and its product with a column of weights, over the extended reals. -/
module

public import Idealize.ShloMosaic.PureOps.Ideal.Laws

@[expose] public section

noncomputable section

namespace Cert.Inproj

open Idealize.ShloMosaic

/-- Entry `k` of a row of 1024 divided by its root mean square and scaled by `g`. -/
def norm (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The product of a normalised row with a column of weights. -/
def proj (x g w : Fin 1024 → EReal) : EReal := ∑ k, norm x g k * w k

end Cert.Inproj

end
-- ==== Proof.Inproj.Ref.lean ====
/- The input projection's reference: what its six results hold, and its run. -/
module

public import proofs.«01_k».proof.Proof.Gen.Reference2Ideal.Run
public import proofs.«01_k».proof.Proof.Gen.Reference2Ideal.Read
public import proofs.«01_k».proof.Proof.Inproj.Norm
public import Idealize.ShloMosaic.Lib.Pointwise
public import Idealize.ShloMosaic.Lib.Quiescent
public import Idealize.ShloMosaic.Lib.Claim

@[expose] public section

set_option maxRecDepth 16384

noncomputable section

namespace Cert.Inproj.Ref

open Cert.Reference2Ideal Cert.Reference2Ideal.Read Idealize.ShloMosaic Idealize.ShloMosaic.TcCoe Idealize.SL.Sem

/-- The normalised input. -/
theorem norm_at (x0 : FVec Ideal S4096x1024 .f32) (x1 : FVec Ideal S1024 .f32) (r : Fin 4096) (k : Fin 1024) :
    val_main_v12 (F := Ideal) x0 x1 (ix2 r k) = norm (fun j => x0 (ix2 r j)) (fun j => x1 (ix1 j)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The whole projection at row `r`, column `n`. -/
theorem proj_at (x0 : FVec Ideal S4096x1024 .f32) (x1 : FVec Ideal S1024 .f32) (x2 : FVec Ideal S1024x5376 .f32)
    (r : Fin 4096) (n : Fin 5376) :
    val_main_v13 (F := Ideal) x0 x1 x2 (ix2 r n)
      = proj (fun j => x0 (ix2 r j)) (fun j => x1 (ix1 j)) fun j => x2 (ix2 j n) := by
  pointwise [val_main_v13]
  simp only [norm_at]
  rfl

/-- The reference's results are its formulas over any arrays its arguments equal. -/
theorem run (m : (ℓ : Loc nD τ sig) → Buf (Elt Ideal) ℓ) (g : Dev nD → PrngReg) (x0 : Dev nD → FVec Ideal S4096x1024 .f32)
    (x1 : Dev nD → FVec Ideal S1024 .f32) (x2 : Dev nD → FVec Ideal S1024x5376 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c) :
    θ_run (defs (F := Ideal)) (onTc (τ := τ) (main (F := Ideal))) ⟨m, fun _ => 0, g⟩ fun r => ∀ c : Dev nD,
      r.2.mem ((c.tc : Thread nD τ).loc main_v14) = val_main_v14 (F := Ideal) (x0 c) (x1 c) (x2 c)
      ∧ r.2.mem ((c.tc : Thread nD τ).loc main_v15) = val_main_v15 (F := Ideal) (x0 c) (x1 c) (x2 c)
      ∧ r.2.mem ((c.tc : Thread nD τ).loc main_v16) = val_main_v16 (F := Ideal) (x0 c) (x1 c) (x2 c)
      ∧ r.2.mem ((c.tc : Thread nD τ).loc main_v20) = val_main_v20 (F := Ideal) (x0 c) (x1 c) (x2 c)
      ∧ r.2.mem ((c.tc : Thread nD τ).loc main_v21) = val_main_v21 (F := Ideal) (x0 c) (x1 c) (x2 c)
      ∧ r.2.mem ((c.tc : Thread nD τ).loc main_v19) = val_main_v19 (F := Ideal) (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (Cert.Reference2Ideal.Value.run m g) fun r h c => ?_
  obtain ⟨a, b, d, e, f, i, k⟩ := h c
  refine ⟨a.trans ?_, b.trans ?_, d.trans ?_, e.trans ?_, f.trans ?_, i.trans ?_, k⟩ <;> rw [← h0 c, ← h1 c, ← h2 c] <;> rfl

/-- The reference runs, its arguments unchanged and no semaphore counting. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (Cert.Reference2Ideal.Value.run m g) fun r h =>
    ⟨fun c => (h c).2.2.2.2.2.2, sem_eq_zero_of_no_sems (by decide) r.2⟩

end Cert.Inproj.Ref

end
-- ==== Proof.Inproj.Final.lean ====
/- The input projection's six output arrays: each is the columns of the reference's product that it is cut from. -/
module

public import proofs.«01_k».proof.Proof.Gen.Kernel2Ideal.Value
public import proofs.«01_k».proof.Proof.Inproj.Ref
public import Idealize.ShloMosaic.Lib.Pipeline.ValueKit

@[expose] public section

set_option maxRecDepth 16384

noncomputable section

namespace Cert.Inproj

open Cert.Kernel2Ideal Cert.Kernel2Ideal.Gen Idealize.ShloMosaic Idealize.ShloMosaic.TcCoe

/-- The blocks of a grid point: its own 256 rows of the input and of each output, the scale and the weights whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- A tile's normalised rows. -/
theorem tile_norm (v0 : FVec Ideal S256x1024 .f32) (v1 : FVec Ideal S1x1024 .f32) (r : Fin 256) (k : Fin 1024) :
    k0_pay4 (F := Ideal) v0 v1 (ix2 r k) = norm (fun j => v0 (ix2 r j)) (fun j => v1 (ix2 0 j)) k := by
  pointwise [k0_pay4]
  rfl

/-- The normalised tile that the last two products read. -/
theorem whole_norm (x : FVec Ideal S256x1024 .f32) (g : FVec Ideal S1x1024 .f32) (w : FVec Ideal S1024x5376 .bf16) :
    k0_pay9 (F := Ideal) x g w = k0_pay4 x g := by
  unfold k0_pay9
  frame_out

variable (m : (ℓ : Loc nD τ sig) → Buf (Elt Ideal) ℓ)

theorem scale_entry (c : Dev nD) (l : Fin 1024) :
    V m c main_v0 (ix2 0 l) = m ((c : Thread nD τ).loc main_arg1) (ix1 l) := by
  entry_read
  pointwise

theorem weight_entry (c : Dev nD) (k : Fin 1024) (n : Fin 5376) :
    V m c main_v1 (ix2 k n) = m ((c : Thread nD τ).loc main_arg2) (ix2 k n) := by
  entry_read
  pointwise

/-- The arguments of a device. -/
abbrev A0 (c : Dev nD) : FVec Ideal Cert.Reference2Ideal.S4096x1024 .f32 := m ((c : Thread nD τ).loc main_arg0)
abbrev A1 (c : Dev nD) : FVec Ideal Cert.Reference2Ideal.S1024 .f32 := m ((c : Thread nD τ).loc main_arg1)
abbrev A2 (c : Dev nD) : FVec Ideal Cert.Reference2Ideal.S1024x5376 .f32 := m ((c : Thread nD τ).loc main_arg2)

/-- Row `r` of a tile times column `n` of the weights is the reference's product at row `t * 256 + r`. -/
theorem point (c : Dev nD) (t : Fin cfg0.N) (r : Fin 256) (n : Fin 5376) (i : Fin 4096) (j : Fin 5376)
    (hi : (i : ℕ) = t.val * 256 + r) (hj : (j : ℕ) = n) :
    ∑ x, k0_pay4 (F := Ideal) (iblk m c 0 t) (iblk m c 1 t) (ix2 r x) * iblk m c 2 t (ix2 x n)
      = Cert.Reference2Ideal.Read.val_main_v13 (F := Ideal) (A0 m c) (A1 m c) (A2 m c) (ix2 i j) := by
  have hx (k : Fin 1024) : iblk m c 0 t (ix2 r k) = A0 m c (ix2 i k) := by blk_point [iblk, V, idx t]
  have hg (k : Fin 1024) : iblk m c 1 t (ix2 0 k) = A1 m c (ix1 k) := by
    refine Eq.trans ?_ (scale_entry m c k)
    blk_point [iblk, idx t]
  have hw (k : Fin 1024) : iblk m c 2 t (ix2 k n) = A2 m c (ix2 k j) := by
    obtain rfl : j = n := Fin.ext hj
    refine Eq.trans ?_ (weight_entry m c k j)
    blk_point [iblk, idx t]
  rw [Ref.proj_at]
  simp only [tile_norm, hx, hg, hw]
  rfl

/-- A tile of output 0 multiplies the normalised rows with columns 0 to 511 of the weights. -/
theorem rows3 (x : FVec Ideal S256x1024 .f32) (g : FVec Ideal S1x1024 .f32) (w : FVec Ideal S1024x5376 .bf16)
    (r : Fin 256) (n : Fin 512) :
    k0_pay5 (F := Ideal) x g (View.ld (Val := Elt Ideal) (e' := .bf16) w r0_2) (ix2 r n)
      = ∑ k, k0_pay4 (F := Ideal) x g (ix2 r k) * w (ix2 k ⟨n, by omega⟩) := by
  pointwise [k0_pay5]

/-- Such a tile's element is the reference's element `j` on which it lands. -/
theorem tile3 (c : Dev nD) (t : Fin cfg0.N) (y : S256x512.Idx) (j : Cert.Reference2Ideal.S4096x512.Idx)
    (h0 : (j 0 : ℕ) = t.val * 256 + y 0) (h1 : (j 1 : ℕ) = y 1) :
    k0_pay5 (F := Ideal) (iblk m c 0 t) (iblk m c 1 t) (View.ld (iblk m c 2 t) r0_2) y
      = Cert.Reference2Ideal.Read.val_main_v14 (F := Ideal) (A0 m c) (A1 m c) (A2 m c) j := by
  idx_vars y
  idx_vars j
  obtain rfl : j1 = y1 := Fin.ext h1
  have hj : (j1 : ℕ) < 512 := j1.isLt
  refine (rows3 _ _ _ _ _).trans ?_
  refine (point m c t y0 ⟨j1, by omega⟩ j0 ⟨j1, by omega⟩ h0 rfl).trans ?_
  pointwise [Cert.Reference2Ideal.Read.val_main_v14]

/-- Output 0 whole. -/
theorem final3 (c : Dev nD) : (dats m 0 c).arrAt 3 (cfgs 0).N
    = Cert.Reference2Ideal.Read.val_main_v14 (F := Ideal) (A0 m c) (A1 m c) (A2 m c) := by
  refine (dats m 0 c).arrAt_eq_of_covers 3 _ (by decide +kernel) fun t _ y => ?_
  blk_simp
  rw [after0_3]
  unfold out0_3
  frame_out
  refine (tile3 m c t y _ ?_ ?_) <;> blk_simp [idx t] <;> omega

/-- A tile of output 1 multiplies the normalised rows with columns 512 to 1535 of the weights. -/
theorem rows4 (x : FVec Ideal S256x1024 .f32) (g : FVec Ideal S1x1024 .f32) (w : FVec Ideal S1024x5376 .bf16)
    (r : Fin 256) (n : Fin 1024) :
    k0_pay6 (F := Ideal) x g (View.ld (Val := Elt Ideal) (e' := .bf16) w r0_4) (ix2 r n)
      = ∑ k, k0_pay4 (F := Ideal) x g (ix2 r k) * w (ix2 k ⟨512 + n, by omega⟩) := by
  pointwise [k0_pay6]

/-- Such a tile's element is the reference's element `j` on which it lands. -/
theorem tile4 (c : Dev nD) (t : Fin cfg0.N) (y : S256x1024.Idx) (j : Cert.Reference2Ideal.S4096x1024.Idx)
    (h0 : (j 0 : ℕ) = t.val * 256 + y 0) (h1 : (j 1 : ℕ) = y 1) :
    k0_pay6 (F := Ideal) (iblk m c 0 t) (iblk m c 1 t) (View.ld (iblk m c 2 t) r0_4) y
      = Cert.Reference2Ideal.Read.val_main_v15 (F := Ideal) (A0 m c) (A1 m c) (A2 m c) j := by
  idx_vars y
  idx_vars j
  obtain rfl : j1 = y1 := Fin.ext h1
  have hj : (j1 : ℕ) < 1024 := j1.isLt
  refine (rows4 _ _ _ _ _).trans ?_
  refine (point m c t y0 ⟨512 + j1, by omega⟩ j0 ⟨512 + j1, by omega⟩ h0 rfl).trans ?_
  pointwise [Cert.Reference2Ideal.Read.val_main_v15]

/-- Output 1 whole. -/
theorem final4 (c : Dev nD) : (dats m 0 c).arrAt 4 (cfgs 0).N
    = Cert.Reference2Ideal.Read.val_main_v15 (F := Ideal) (A0 m c) (A1 m c) (A2 m c) := by
  refine (dats m 0 c).arrAt_eq_of_covers 4 _ (by decide +kernel) fun t _ y => ?_
  blk_simp
  rw [after0_4]
  unfold out0_4
  frame_out
  refine (tile4 m c t y _ ?_ ?_) <;> blk_simp [idx t] <;> omega

/-- A tile of output 2 multiplies the normalised rows with columns 1536 to 1663 of the weights. -/
theorem rows5 (x : FVec Ideal S256x1024 .f32) (g : FVec Ideal S1x1024 .f32) (w : FVec Ideal S1024x5376 .bf16)
    (r : Fin 256) (n : Fin 128) :
    k0_pay7 (F := Ideal) x g (View.ld (Val := Elt Ideal) (e' := .bf16) w r0_5) (ix2 r n)
      = ∑ k, k0_pay4 (F := Ideal) x g (ix2 r k) * w (ix2 k ⟨1536 + n, by omega⟩) := by
  pointwise [k0_pay7]

/-- Such a tile's element is the reference's element `j` on which it lands. -/
theorem tile5 (c : Dev nD) (t : Fin cfg0.N) (y : S256x128.Idx) (j : Cert.Reference2Ideal.S4096x128.Idx)
    (h0 : (j 0 : ℕ) = t.val * 256 + y 0) (h1 : (j 1 : ℕ) = y 1) :
    k0_pay7 (F := Ideal) (iblk m c 0 t) (iblk m c 1 t) (View.ld (iblk m c 2 t) r0_5) y
      = Cert.Reference2Ideal.Read.val_main_v16 (F := Ideal) (A0 m c) (A1 m c) (A2 m c) j := by
  idx_vars y
  idx_vars j
  obtain rfl : j1 = y1 := Fin.ext h1
  have hj : (j1 : ℕ) < 128 := j1.isLt
  refine (rows5 _ _ _ _ _).trans ?_
  refine (point m c t y0 ⟨1536 + j1, by omega⟩ j0 ⟨1536 + j1, by omega⟩ h0 rfl).trans ?_
  pointwise [Cert.Reference2Ideal.Read.val_main_v16]

/-- Output 2 whole. -/
theorem final5 (c : Dev nD) : (dats m 0 c).arrAt 5 (cfgs 0).N
    = Cert.Reference2Ideal.Read.val_main_v16 (F := Ideal) (A0 m c) (A1 m c) (A2 m c) := by
  refine (dats m 0 c).arrAt_eq_of_covers 5 _ (by decide +kernel) fun t _ y => ?_
  blk_simp
  rw [after0_5]
  unfold out0_5
  frame_out
  refine (tile5 m c t y _ ?_ ?_) <;> blk_simp [idx t] <;> omega

/-- A tile of output 3 multiplies the normalised rows with columns 1664 to 1791 of the weights. -/
theorem rows6 (x : FVec Ideal S256x1024 .f32) (g : FVec Ideal S1x1024 .f32) (w : FVec Ideal S1024x5376 .bf16)
    (r : Fin 256) (n : Fin 128) :
    k0_pay1 (F := Ideal) (k0_pay8 x g (View.ld (Val := Elt Ideal) (e' := .bf16) w r0_7)) (ix2 r n)
      = ∑ k, k0_pay4 (F := Ideal) x g (ix2 r k) * w (ix2 k ⟨1664 + n, by omega⟩) := by
  pointwise [k0_pay8, k0_pay1]

/-- Such a tile's element is the reference's element `j` on which it lands. -/
theorem tile6 (c : Dev nD) (t : Fin cfg0.N) (y : S256x128.Idx) (j : Cert.Reference2Ideal.S4096x128.Idx)
    (h0 : (j 0 : ℕ) = t.val * 256 + y 0) (h1 : (j 1 : ℕ) = y 1) :
    k0_pay1 (F := Ideal) (k0_pay8 (iblk m c 0 t) (iblk m c 1 t) (View.ld (iblk m c 2 t) r0_7)) y
      = Cert.Reference2Ideal.Read.val_main_v20 (F := Ideal) (A0 m c) (A1 m c) (A2 m c) j := by
  idx_vars y
  idx_vars j
  obtain rfl : j1 = y1 := Fin.ext h1
  have hj : (j1 : ℕ) < 128 := j1.isLt
  refine (rows6 _ _ _ _ _).trans ?_
  refine (point m c t y0 ⟨1664 + j1, by omega⟩ j0 ⟨1664 + j1, by omega⟩ h0 rfl).trans ?_
  pointwise [Cert.Reference2Ideal.Read.val_main_v20, Cert.Reference2Ideal.Read.val_main_v17]

/-- Output 3 whole. -/
theorem final6 (c : Dev nD) : (dats m 0 c).arrAt 6 (cfgs 0).N
    = Cert.Reference2Ideal.Read.val_main_v20 (F := Ideal) (A0 m c) (A1 m c) (A2 m c) := by
  refine (dats m 0 c).arrAt_eq_of_covers 6 _ (by decide +kernel) fun t _ y => ?_
  blk_simp
  rw [after0_6]
  unfold out0_6
  frame_out
  refine (tile6 m c t y _ ?_ ?_) <;> blk_simp [idx t] <;> omega

/-- A tile of output 4 multiplies the normalised rows with columns 1792 to 2303 of the weights. -/
theorem rows7 (x : FVec Ideal S256x1024 .f32) (g : FVec Ideal S1x1024 .f32) (w : FVec Ideal S1024x5376 .bf16)
    (r : Fin 256) (n : Fin 512) :
    k0_pay2 (F := Ideal) (k0_pay4 x g) (View.ld (Val := Elt Ideal) (e' := .bf16) w r0_8) (ix2 r n)
      = ∑ k, k0_pay4 (F := Ideal) x g (ix2 r k) * w (ix2 k ⟨1792 + n, by omega⟩) := by
  pointwise [k0_pay2]

/-- Such a tile's element is the reference's element `j` on which it lands. -/
theorem tile7 (c : Dev nD) (t : Fin cfg0.N) (y : S256x512.Idx) (j : Cert.Reference2Ideal.S4096x512.Idx)
    (h0 : (j 0 : ℕ) = t.val * 256 + y 0) (h1 : (j 1 : ℕ) = y 1) :
    k0_pay2 (F := Ideal) (k0_pay4 (iblk m c 0 t) (iblk m c 1 t)) (View.ld (iblk m c 2 t) r0_8) y
      = Cert.Reference2Ideal.Read.val_main_v21 (F := Ideal) (A0 m c) (A1 m c) (A2 m c) j := by
  idx_vars y
  idx_vars j
  obtain rfl : j1 = y1 := Fin.ext h1
  have hj : (j1 : ℕ) < 512 := j1.isLt
  refine (rows7 _ _ _ _ _).trans ?_
  refine (point m c t y0 ⟨1792 + j1, by omega⟩ j0 ⟨1792 + j1, by omega⟩ h0 rfl).trans ?_
  pointwise [Cert.Reference2Ideal.Read.val_main_v21, Cert.Reference2Ideal.Read.val_main_v18]

/-- Output 4 whole. -/
theorem final7 (c : Dev nD) : (dats m 0 c).arrAt 7 (cfgs 0).N
    = Cert.Reference2Ideal.Read.val_main_v21 (F := Ideal) (A0 m c) (A1 m c) (A2 m c) := by
  refine (dats m 0 c).arrAt_eq_of_covers 7 _ (by decide +kernel) fun t _ y => ?_
  blk_simp
  rw [after0_7]
  unfold out0_7
  frame_out
  rw [whole_norm]
  refine (tile7 m c t y _ ?_ ?_) <;> blk_simp [idx t] <;> omega

/-- A tile of output 5 multiplies the normalised rows with columns 2304 to 5375 of the weights. -/
theorem rows8 (x : FVec Ideal S256x1024 .f32) (g : FVec Ideal S1x1024 .f32) (w : FVec Ideal S1024x5376 .bf16)
    (r : Fin 256) (n : Fin 3072) :
    k0_pay3 (F := Ideal) (k0_pay4 x g) (View.ld (Val := Elt Ideal) (e' := .bf16) w r0_9) (ix2 r n)
      = ∑ k, k0_pay4 (F := Ideal) x g (ix2 r k) * w (ix2 k ⟨2304 + n, by omega⟩) := by
  pointwise [k0_pay3]

/-- Such a tile's element is the reference's element `j` on which it lands. -/
theorem tile8 (c : Dev nD) (t : Fin cfg0.N) (y : S256x3072.Idx) (j : Cert.Reference2Ideal.S4096x3072.Idx)
    (h0 : (j 0 : ℕ) = t.val * 256 + y 0) (h1 : (j 1 : ℕ) = y 1) :
    k0_pay3 (F := Ideal) (k0_pay4 (iblk m c 0 t) (iblk m c 1 t)) (View.ld (iblk m c 2 t) r0_9) y
      = Cert.Reference2Ideal.Read.val_main_v19 (F := Ideal) (A0 m c) (A1 m c) (A2 m c) j := by
  idx_vars y
  idx_vars j
  obtain rfl : j1 = y1 := Fin.ext h1
  have hj : (j1 : ℕ) < 3072 := j1.isLt
  refine (rows8 _ _ _ _ _).trans ?_
  refine (point m c t y0 ⟨2304 + j1, by omega⟩ j0 ⟨2304 + j1, by omega⟩ h0 rfl).trans ?_
  pointwise [Cert.Reference2Ideal.Read.val_main_v19]

/-- Output 5 whole. -/
theorem final8 (c : Dev nD) : (dats m 0 c).arrAt 8 (cfgs 0).N
    = Cert.Reference2Ideal.Read.val_main_v19 (F := Ideal) (A0 m c) (A1 m c) (A2 m c) := by
  refine (dats m 0 c).arrAt_eq_of_covers 8 _ (by decide +kernel) fun t _ y => ?_
  blk_simp
  rw [after0_8]
  unfold out0_8
  frame_out
  rw [whole_norm]
  refine (tile8 m c t y _ ?_ ?_) <;> blk_simp [idx t] <;> omega

end Cert.Inproj

end
-- ==== Proof.Memkv.Ref.lean ====
/- The memory's keys and values in the reference: what the two results hold, and the run. -/
module

public import proofs.«01_k».proof.Proof.Gen.Reference3Ideal.Run
public import proofs.«01_k».proof.Proof.Gen.Reference3Ideal.Read
public import proofs.«01_k».proof.Proof.Inproj.Norm
public import Idealize.ShloMosaic.Lib.Pointwise
public import Idealize.ShloMosaic.Lib.Quiescent
public import Idealize.ShloMosaic.Lib.Claim

@[expose] public section

set_option maxRecDepth 16384

noncomputable section

namespace Cert.Memkv.Ref

open Cert.Inproj Cert.Reference3Ideal Cert.Reference3Ideal.Read Idealize.ShloMosaic Idealize.ShloMosaic.TcCoe Idealize.SL.Sem

/-- A memory token, normalised. -/
theorem norm_at (x0 : FVec Ideal S8x256x1024 .f32) (x1 : FVec Ideal S1024 .f32) (b : Fin 8) (r : Fin 256) (k : Fin 1024) :
    val_main_v12 (F := Ideal) x0 x1 (ix3 b r k) = norm (fun j => x0 (ix3 b r j)) (fun j => x1 (ix1 j)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- Token `r` of sequence `b` times column `n` of the weights. -/
theorem proj_at (x0 : FVec Ideal S8x256x1024 .f32) (x1 : FVec Ideal S1024 .f32) (x2 : FVec Ideal S1024x1024 .f32)
    (b : Fin 8) (r : Fin 256) (n : Fin 1024) :
    val_main_v13 (F := Ideal) x0 x1 x2 (ix3 b r n)
      = proj (fun j => x0 (ix3 b r j)) (fun j => x1 (ix1 j)) fun j => x2 (ix2 j n) := by
  pointwise [val_main_v13]
  simp only [norm_at]
  rfl

/-- The reference's results are its formulas over any arrays its arguments equal. -/
theorem run (m : (ℓ : Loc nD τ sig) → Buf (Elt Ideal) ℓ) (g : Dev nD → PrngReg)
    (x0 : Dev nD → FVec Ideal S8x256x1024 .f32) (x1 : Dev nD → FVec Ideal S1024 .f32)
    (x2 : Dev nD → FVec Ideal S1024x1024 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c) :
    θ_run (defs (F := Ideal)) (onTc (τ := τ) (main (F := Ideal))) ⟨m, fun _ => 0, g⟩ fun r => ∀ c : Dev nD,
      r.2.mem ((c.tc : Thread nD τ).loc main_v16) = val_main_v16 (F := Ideal) (x0 c) (x1 c) (x2 c)
      ∧ r.2.mem ((c.tc : Thread nD τ).loc main_v17) = val_main_v17 (F := Ideal) (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (Cert.Reference3Ideal.Value.run m g) fun r h c => ?_
  obtain ⟨a, b, k⟩ := h c
  refine ⟨a.trans ?_, b.trans ?_, k⟩ <;> rw [← h0 c, ← h1 c, ← h2 c] <;> rfl

/-- The reference runs, its arguments unchanged and no semaphore counting. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (Cert.Reference3Ideal.Value.run m g) fun r h =>
    ⟨fun c => (h c).2.2, sem_eq_zero_of_no_sems (by decide) r.2⟩

end Cert.Memkv.Ref

end
-- ==== Proof.Memkv.Final.lean ====
/- The memory's keys and values: the two output arrays of the kernel are the reference's. -/
module

public import proofs.«01_k».proof.Proof.Gen.Kernel3Ideal.Value
public import proofs.«01_k».proof.Proof.Memkv.Ref
public import Idealize.ShloMosaic.Lib.Pipeline.ValueKit

@[expose] public section

set_option maxRecDepth 16384

noncomputable section

namespace Cert.Memkv

open Cert.Inproj Cert.Kernel3Ideal Cert.Kernel3Ideal.Gen Idealize.ShloMosaic Idealize.ShloMosaic.TcCoe

/-- The blocks of a grid point: its own sequence of the memory and of each output, the scale and the weights whole. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

/-- One sequence's memory, normalised and multiplied with the weights. -/
theorem tile_proj (x : FVec Ideal S1x256x1024 .f32) (g : FVec Ideal S1x1024 .f32) (w : FVec Ideal S1024x1024 .bf16)
    (r : Fin 256) (n : Fin 1024) :
    k0_pay1 (F := Ideal) x g w (ix2 r n)
      = proj (fun j => x (ix3 0 r j)) (fun j => g (ix2 0 j)) fun j => w (ix2 j n) := by
  pointwise [k0_pay1]
  rfl

variable (m : (ℓ : Loc nD τ sig) → Buf (Elt Ideal) ℓ)

theorem scale_entry (c : Dev nD) (l : Fin 1024) :
    V m c main_v0 (ix2 0 l) = m ((c : Thread nD τ).loc main_arg1) (ix1 l) := by
  entry_read
  pointwise

theorem weight_entry (c : Dev nD) (k n : Fin 1024) :
    V m c main_v1 (ix2 k n) = m ((c : Thread nD τ).loc main_arg2) (ix2 k n) := by
  entry_read
  pointwise

/-- The arguments of a device. -/
abbrev A0 (c : Dev nD) : FVec Ideal Cert.Reference3Ideal.S8x256x1024 .f32 := m ((c : Thread nD τ).loc main_arg0)
abbrev A1 (c : Dev nD) : FVec Ideal Cert.Reference3Ideal.S1024 .f32 := m ((c : Thread nD τ).loc main_arg1)
abbrev A2 (c : Dev nD) : FVec Ideal Cert.Reference3Ideal.S1024x1024 .f32 := m ((c : Thread nD τ).loc main_arg2)

/-- Token `r` of a grid point times column `n` of the weights is the reference's product of sequence `t`. -/
theorem point (c : Dev nD) (t : Fin cfg0.N) (r : Fin 256) (n : Fin 1024) (b : Fin 8) (hb : (b : ℕ) = t.val) :
    k0_pay1 (F := Ideal) (iblk m c 0 t) (iblk m c 1 t) (iblk m c 2 t) (ix2 r n)
      = Cert.Reference3Ideal.Read.val_main_v13 (F := Ideal) (A0 m c) (A1 m c) (A2 m c) (ix3 b r n) := by
  have hx (k : Fin 1024) : iblk m c 0 t (ix3 0 r k) = A0 m c (ix3 b r k) := by blk_point [iblk, V, idx t]
  have hg (k : Fin 1024) : iblk m c 1 t (ix2 0 k) = A1 m c (ix1 k) := by
    refine Eq.trans ?_ (scale_entry m c k)
    blk_point [iblk, idx t]
  have hw (k : Fin 1024) : iblk m c 2 t (ix2 k n) = A2 m c (ix2 k n) := by
    refine Eq.trans ?_ (weight_entry m c k n)
    blk_point [iblk, idx t]
  rw [Ref.proj_at, tile_proj]
  simp only [hx, hg, hw]

/-- The keys of a sequence are columns of its product. -/
theorem cols3 (x : FVec Ideal S1x256x1024 .f32) (g : FVec Ideal S1x1024 .f32) (w : FVec Ideal S1024x1024 .bf16)
    (z : Fin 1) (r : Fin 256) (n : Fin 512) :
    k0_pay2 (F := Ideal) x g w (ix3 z r n) = k0_pay1 (F := Ideal) x g w (ix2 r ⟨n, by omega⟩) := by
  pointwise [k0_pay2]

/-- An element of a grid point's keys is the reference's element `j` on which it lands. -/
theorem tile3 (c : Dev nD) (t : Fin cfg0.N) (y : S1x256x512.Idx) (j : Cert.Reference3Ideal.S8x256x512.Idx)
    (h0 : (j 0 : ℕ) = t.val) (h1 : (j 1 : ℕ) = y 1) (h2 : (j 2 : ℕ) = y 2) :
    k0_pay2 (F := Ideal) (iblk m c 0 t) (iblk m c 1 t) (iblk m c 2 t) y
      = Cert.Reference3Ideal.Read.val_main_v16 (F := Ideal) (A0 m c) (A1 m c) (A2 m c) j := by
  idx_vars y
  idx_vars j
  obtain rfl : j1 = y1 := Fin.ext h1
  obtain rfl : j2 = y2 := Fin.ext h2
  have hj : (j2 : ℕ) < 512 := j2.isLt
  refine (cols3 _ _ _ _ _ _).trans ?_
  refine (point m c t j1 ⟨j2, by omega⟩ j0 h0).trans ?_
  pointwise [Cert.Reference3Ideal.Read.val_main_v16, Cert.Reference3Ideal.Read.val_main_v14]

/-- The keys whole. -/
theorem final3 (c : Dev nD) : (dats m 0 c).arrAt 3 (cfgs 0).N
    = Cert.Reference3Ideal.Read.val_main_v16 (F := Ideal) (A0 m c) (A1 m c) (A2 m c) := by
  refine (dats m 0 c).arrAt_eq_of_covers 3 _ (by decide +kernel) fun t _ y => ?_
  have hy := (y 0).isLt
  blk_simp
  rw [after0_3]
  unfold out0_3
  frame_out
  refine (tile3 m c t y _ ?_ ?_ ?_) <;> blk_simp [idx t] <;> omega

/-- The values of a sequence are columns of its product. -/
theorem cols4 (x : FVec Ideal S1x256x1024 .f32) (g : FVec Ideal S1x1024 .f32) (w : FVec Ideal S1024x1024 .bf16)
    (z : Fin 1) (r : Fin 256) (n : Fin 512) :
    k0_pay3 (F := Ideal) x g w (ix3 z r n) = k0_pay1 (F := Ideal) x g w (ix2 r ⟨512 + n, by omega⟩) := by
  pointwise [k0_pay3]

/-- An element of a grid point's values is the reference's element `j` on which it lands. -/
theorem tile4 (c : Dev nD) (t : Fin cfg0.N) (y : S1x256x512.Idx) (j : Cert.Reference3Ideal.S8x256x512.Idx)
    (h0 : (j 0 : ℕ) = t.val) (h1 : (j 1 : ℕ) = y 1) (h2 : (j 2 : ℕ) = y 2) :
    k0_pay3 (F := Ideal) (iblk m c 0 t) (iblk m c 1 t) (iblk m c 2 t) y
      = Cert.Reference3Ideal.Read.val_main_v17 (F := Ideal) (A0 m c) (A1 m c) (A2 m c) j := by
  idx_vars y
  idx_vars j
  obtain rfl : j1 = y1 := Fin.ext h1
  obtain rfl : j2 = y2 := Fin.ext h2
  have hj : (j2 : ℕ) < 512 := j2.isLt
  refine (cols4 _ _ _ _ _ _).trans ?_
  refine (point m c t j1 ⟨512 + j2, by omega⟩ j0 h0).trans ?_
  pointwise [Cert.Reference3Ideal.Read.val_main_v17, Cert.Reference3Ideal.Read.val_main_v15]

/-- The values whole. -/
theorem final4 (c : Dev nD) : (dats m 0 c).arrAt 4 (cfgs 0).N
    = Cert.Reference3Ideal.Read.val_main_v17 (F := Ideal) (A0 m c) (A1 m c) (A2 m c) := by
  refine (dats m 0 c).arrAt_eq_of_covers 4 _ (by decide +kernel) fun t _ y => ?_
  have hy := (y 0).isLt
  blk_simp
  rw [after0_4]
  unfold out0_4
  frame_out
  refine (tile4 m c t y _ ?_ ?_ ?_) <;> blk_simp [idx t] <;> omega

end Cert.Memkv

end
-- ==== Proof.Merge.Math.lean ====
/- The mathematics of one row of the merge, over the extended reals: windows of a column as differences of
   its running sums, the softmax attention of one head, and the gated sum. Nothing here mentions a program. -/
module

public import Idealize.ShloMosaic.PureOps.Ideal.Laws
public import Idealize.ShloMosaic.Lib.Pointwise
public import Idealize.ShloMosaic.Lib.IdealHost
public import Mathlib.Tactic.Abel

@[expose] public section

noncomputable section

namespace Cert.Merge

open Idealize.ShloMosaic

/-- A column of 4096 entries behind sixteen zeros. -/
def padded (u : Fin 4096 → EReal) (t : ℕ) : EReal :=
  if h : 16 ≤ t ∧ t < 4112 then u ⟨t - 16, by omega⟩ else 0

/-- The column's running sum, entry `t` included. -/
def running (u : Fin 4096 → EReal) (t : ℕ) : EReal := ∑ j ∈ Finset.range (t + 1), padded u j

/-- The column's last `w` entries up to entry `t`. -/
def window (u : Fin 4096 → EReal) (w t : ℕ) : EReal := ∑ d ∈ Finset.range w, padded u (t - d)

/-- How many rows a window of `w` rows really holds at row `R`: `R + 1` of them at most. -/
def count (R : ℕ) (w : BitVec 32) : EReal :=
  (FloatOps.sitofp (F := Ideal) FTy.f32 (IntOp.minsi (IntOp.addi (BitVec.ofNat 32 R) 1#32) w) : Ideal .f32)

/-- Row `R`'s mean over a window, less the row itself. -/
def centred (u : Fin 4096 → EReal) (w : ℕ) (W : BitVec 32) (R : Fin 4096) : EReal :=
  Ideal.div (window u w (R + 16)) (count R W) - u R

/-- Row `R` of the pooled columns: four groups of 128 columns with windows of 2, 4, 8 and 16 rows, each group
    mixed by its own weights and all scaled. -/
def pool (u : Fin 4096 → Fin 512 → EReal) (wp : Fin 4 → Fin 128 → Fin 128 → EReal) (sc : Fin 512 → EReal)
    (R : Fin 4096) (C : Fin 512) : EReal :=
  (∑ x : Fin 128, (if (C : ℕ) / 128 < 1 then centred (fun j => u j ⟨x, by omega⟩) 2 2#32 R
      else if (C : ℕ) / 128 - 1 < 1 then centred (fun j => u j ⟨128 + x, by omega⟩) 4 4#32 R
      else if (C : ℕ) / 128 - 1 - 1 < 1 then centred (fun j => u j ⟨256 + x, by omega⟩) 8 8#32 R
      else centred (fun j => u j ⟨384 + x, by omega⟩) 16 16#32 R)
    * wp ⟨(C : ℕ) / 128, by omega⟩ x ⟨(C : ℕ) % 128, by omega⟩) * sc C

/-- A finite sum of finite entries is finite. -/
theorem sum_finite (f : ℕ → EReal) (h : ∀ j, f j ≠ ⊤ ∧ f j ≠ ⊥) (n : ℕ) :
    ∑ j ∈ Finset.range n, f j ≠ ⊤ ∧ ∑ j ∈ Finset.range n, f j ≠ ⊥ := by
  induction n with
  | zero => simp
  | succ n ih =>
    rw [Finset.sum_range_succ]
    refine ⟨EReal.add_ne_top ih.1 (h n).1, fun e => ?_⟩
    rcases EReal.add_eq_bot_iff.mp e with a | a
    · exact ih.2 a
    · exact (h n).2 a

/-- The difference of two running sums is the window between them, if the column is finite. -/
theorem running_sub (u : Fin 4096 → EReal) (h : ∀ j, u j ≠ ⊤ ∧ u j ≠ ⊥) (w t s : ℕ) (hs : t = s + w) :
    running u t - running u s = window u w t := by
  have hp : ∀ j, padded u j ≠ ⊤ ∧ padded u j ≠ ⊥ := by
    intro j
    rw [padded]
    split
    · exact h _
    · simp
  obtain ⟨h1, h2⟩ := sum_finite (padded u) hp (s + 1)
  have e : running u t = running u s + window u w t := by
    rw [running, running, window, hs, show s + w + 1 = s + 1 + w by omega, Finset.sum_range_add]
    refine congrArg _ ?_
    rw [← Finset.sum_range_reflect]
    refine Finset.sum_congr rfl fun d hd => congrArg _ ?_
    have := Finset.mem_range.mp hd
    omega
  rw [e]
  change ∑ j ∈ Finset.range (s + 1), padded u j + _ - ∑ j ∈ Finset.range (s + 1), padded u j = _
  generalize ∑ j ∈ Finset.range (s + 1), padded u j = a at h1 h2
  lift a to ℝ using ⟨h1, h2⟩
  rw [add_comm, EReal.add_sub_cancel_right]

/-- A sequence added to itself `k` places later. -/
def twice (k : ℕ) (s : ℕ → EReal) (a : ℕ) : EReal := s a + s (a - k)

theorem twice1 (s : ℕ → EReal) (a : ℕ) : twice 1 s a = ∑ d ∈ Finset.range 2, s (a - d) := by
  simp [twice, Finset.sum_range_succ]

theorem twice2 (s : ℕ → EReal) (a : ℕ) : twice 2 (twice 1 s) a = ∑ d ∈ Finset.range 4, s (a - d) := by
  simp only [twice, Finset.sum_range_succ, Finset.sum_range_zero, Nat.sub_sub, Nat.reduceAdd, Nat.sub_zero, zero_add]
  abel

theorem twice4 (s : ℕ → EReal) (a : ℕ) :
    twice 4 (twice 2 (twice 1 s)) a = ∑ d ∈ Finset.range 8, s (a - d) := by
  simp only [twice, Finset.sum_range_succ, Finset.sum_range_zero, Nat.sub_sub, Nat.reduceAdd, Nat.sub_zero, zero_add]
  abel

theorem twice8 (s : ℕ → EReal) (a : ℕ) :
    twice 8 (twice 4 (twice 2 (twice 1 s))) a = ∑ d ∈ Finset.range 16, s (a - d) := by
  simp only [twice, Finset.sum_range_succ, Finset.sum_range_zero, Nat.sub_sub, Nat.reduceAdd, Nat.sub_zero, zero_add]
  abel

/-- One head's softmax attention: 256 scores and 256 values. -/
def soft (sc v : Fin 256 → EReal) : EReal :=
  ∑ j, Ideal.div (Ideal.exp (sc j - Finset.fold max (Ideal.ofBits FTy.f32 0xFF800000#32) sc Finset.univ))
    (∑ k, Ideal.exp (sc k - Finset.fold max (Ideal.ofBits FTy.f32 0xFF800000#32) sc Finset.univ)) * v j

/-- Column `C` of the memory attention of one row: four heads of 128 columns. -/
def recall (q : Fin 512 → EReal) (k v : Fin 256 → Fin 512 → EReal) (C : Fin 512) : EReal :=
  soft (fun j => (∑ d : Fin 128, q ⟨(C : ℕ) / 128 * 128 + d, by omega⟩ * k j ⟨(C : ℕ) / 128 * 128 + d, by omega⟩)
    * Ideal.ofBits FTy.f32 0x3DB504F3#32) (fun j => v j C)

/-- The gate of a logit. -/
def gate (x : EReal) : EReal := Ideal.div (Ideal.ofBits FTy.f32 0x3F800000#32) (Ideal.ofBits FTy.f32 0x3F800000#32 + Ideal.exp (-x))

theorem gate_eq (x : EReal) : Ideal.logistic x = gate x := by
  unfold gate Ideal.logistic
  rw [Ideal.ofBits_one_f32]

/-- A row's residual sum: the three branches gated, added and projected. -/
def gated (x : EReal) (a c : Fin 512 → EReal) (b : Fin 1024 → EReal) (g0 g1 g2 : Fin 1024 → EReal)
    (wa wc : Fin 512 → Fin 1024 → EReal) (wb : Fin 1024 → Fin 1024 → EReal) (wo : Fin 1024 → EReal) : EReal :=
  x + ∑ k, (gate (g0 k) * (∑ j, a j * wa j k) + gate (g1 k) * (∑ j, b j * wb j k) + gate (g2 k) * ∑ j, c j * wc j k) * wo k

end Cert.Merge

end
-- ==== Proof.Merge.Prefix.lean ====
/- The host's running sum down the columns of a matrix, over the extended reals. -/
module

public import Idealize.ShloMosaic.Lib.Pointwise
public import Idealize.ShloMosaic.PureOps.Ideal.Laws
public import Idealize.ShloMosaic.Lib.Routing.OpsOne

@[expose] public section

noncomputable section

namespace Cert.Merge

open Idealize.ShloMosaic

/-- Adding up a list from zero is the sum over its positions. -/
theorem foldl_sum {N : ℕ} (g : Fin N → EReal) : (List.finRange N).foldl (fun r n => r + g n) 0 = ∑ n, g n := by
  rw [Fin.sum_univ_def, List.sum_eq_foldl, List.foldl_map]

/-- A window as high as the matrix that ends at row `j` holds the rows up to `j`. -/
theorem running_sum {n C : ℕ} (x : (⟨2, ![n + 1, C]⟩ : Shape).Idx → EReal)
    (h : (⟨2, ![n + 1, C]⟩ : Shape).ReduceWindows (![n + 1, 1] : Fin 2 → ℕ) ![1, 1] ![n, 0] ![0, 0] ⟨2, ![n + 1, C]⟩)
    (hu : 0 < (⟨0, ![]⟩ : Shape).numel) (j : Fin (n + 1)) (c : Fin C) :
    Host.reduceWindow (· + ·) ![n + 1, 1] ![1, 1] ![n, 0] ![0, 0] x (fun _ : (⟨0, ![]⟩ : Shape).Idx => (0 : EReal)) h hu (ix2 j c)
      = ∑ i ∈ Finset.range (j + 1), if hi : i < n + 1 then x (ix2 ⟨i, hi⟩ c) else 0 := by
  unfold Host.reduceWindow
  refine (foldl_sum _).trans ?_
  have hj := j.isLt
  let G : ℕ → EReal := fun q => if n ≤ j + q then (if hi : j + q - n < n + 1 then x (ix2 ⟨j + q - n, hi⟩ c) else 0) else 0
  trans ∑ p : Fin (⟨2, ![n + 1, 1]⟩ : Shape).numel, G p.val
  · refine Finset.sum_congr rfl fun p _ => ?_
    change _ = if n ≤ j + p.val then (if hi : j + p.val - n < n + 1 then x (ix2 ⟨j + p.val - n, hi⟩ c) else 0) else 0
    have e0 : ((⟨2, ![n + 1, 1]⟩ : Shape).rowMajor.symm p 0).val = p.val := by rw [Routing.symm_col]; rfl
    have e1 : ((⟨2, ![n + 1, 1]⟩ : Shape).rowMajor.symm p 1).val = 0 := by rw [Routing.symm_col]; rfl
    have hp : p.val < n + 1 := (p.cast (Routing.numel_col _)).isLt
    have hc := c.isLt
    by_cases hn : n ≤ j + p.val
    · rw [if_pos hn, dif_pos (show (j : ℕ) + p.val - n < n + 1 by omega)]
      refine (dif_pos fun a => ?_).trans (congrArg x (funext fun a => Fin.ext ?_))
      · match a with
        | ⟨0, _⟩ =>
          show n ≤ j.val * 1 + ((⟨2, ![n + 1, 1]⟩ : Shape).rowMajor.symm p 0).val
            ∧ j.val * 1 + ((⟨2, ![n + 1, 1]⟩ : Shape).rowMajor.symm p 0).val - n < n + 1
          rw [e0]; omega
        | ⟨1, _⟩ =>
          show 0 ≤ c.val * 1 + ((⟨2, ![n + 1, 1]⟩ : Shape).rowMajor.symm p 1).val
            ∧ c.val * 1 + ((⟨2, ![n + 1, 1]⟩ : Shape).rowMajor.symm p 1).val - 0 < C
          rw [e1]; omega
      · match a with
        | ⟨0, _⟩ =>
          show j.val * 1 + ((⟨2, ![n + 1, 1]⟩ : Shape).rowMajor.symm p 0).val - n = j.val + p.val - n
          rw [e0, Nat.mul_one]
        | ⟨1, _⟩ =>
          show c.val * 1 + ((⟨2, ![n + 1, 1]⟩ : Shape).rowMajor.symm p 1).val - 0 = c.val
          rw [e1]; omega
    · rw [if_neg hn]
      refine dif_neg fun hin => hn ?_
      have h0 := (hin 0).1
      change n ≤ j.val * 1 + ((⟨2, ![n + 1, 1]⟩ : Shape).rowMajor.symm p 0).val at h0
      rw [e0] at h0
      omega
  rw [Fin.sum_univ_eq_sum_range G,
    Routing.numel_col]
  refine (congrArg (fun N => ∑ q ∈ Finset.range N, G q) (show n + 1 = (n - j) + (j + 1) by omega)).trans ?_
  rw [Finset.sum_range_add, Finset.sum_eq_zero, zero_add]
  · refine Finset.sum_congr rfl fun i _ => ?_
    have e : (j : ℕ) + (n - j + i) - n = i := by omega
    change (if n ≤ j + (n - j + i) then (if hi : j + (n - j + i) - n < n + 1 then x (ix2 ⟨j + (n - j + i) - n, hi⟩ c) else 0) else 0) = _
    rw [if_pos (by omega)]
    simp only [e]
  · intro q hq
    have := Finset.mem_range.mp hq
    exact if_neg (by omega)

/-- The same of the host's window sum. -/
theorem running_host {N n C : ℕ} (hN : N = n + 1) (x : (⟨2, ![N, C]⟩ : Shape).Idx → EReal)
    (h : (⟨2, ![N, C]⟩ : Shape).ReduceWindows (![N, 1] : Fin 2 → ℕ) ![1, 1] ![n, 0] ![0, 0] ⟨2, ![N, C]⟩) (j : Fin N) (c : Fin C) :
    Ideal.hostReduceWindowAdd ![N, 1] ![1, 1] ![n, 0] ![0, 0] h x 0 (ix2 j c)
      = ∑ i ∈ Finset.range (j + 1), if hi : i < N then x (ix2 ⟨i, hi⟩ c) else 0 := by
  subst hN
  exact running_sum x h (by decide) j c

end Cert.Merge

end
-- ==== Proof.Merge.RefPool.lean ====
/- The reference's pooling. -/
module

public import proofs.«01_k».proof.Proof.Gen.Reference4Ideal.Read
public import proofs.«01_k».proof.Proof.Merge.Math
public import proofs.«01_k».proof.Proof.Merge.Prefix
public import Idealize.ShloMosaic.Lib.Pointwise
public import Idealize.ShloMosaic.Lib.KernelVsHost

@[expose] public section

set_option maxRecDepth 16384

noncomputable section

namespace Cert.Merge.Ref

open Cert.Reference4Ideal Cert.Reference4Ideal.Gen Cert.Reference4Ideal.Read Idealize.ShloMosaic Idealize.ShloMosaic.TcCoe

/-- The running sums of the pooled columns. -/
theorem sums_at (x1 : FVec Ideal S4096x512 .f32) (R : Fin 4096) (C : Fin 512) :
    val_main_v0 (F := Ideal) x1 (ix2 R C) = ∑ j ∈ Finset.range (R + 1), if h : j < 4096 then x1 (ix2 ⟨j, h⟩ C) else 0 := by
  have z : val_main_call0_call0_v0 (F := Ideal) (Shape.Idx.first h_S_) = (0 : EReal) := by
    pointwise [val_main_call0_call0_v0, val_main_call0_call0_cst]
  unfold val_main_v0 Host.reduceWindowAdd
  rw [z, Ideal.hostReduceWindowAdd_def]
  exact running_host (by decide) x1 reduceWindows_S4096x512_S4096x512_w4096s1p4095_0_w1s1p0_0 R C

/-- Sixteen zeros in front of a column do not count. -/
theorem running_skip (u : Fin 4096 → EReal) (R : Fin 4096) :
    running u (R + 16) = ∑ j ∈ Finset.range (R + 1), if h : j < 4096 then u ⟨j, h⟩ else 0 := by
  rw [running, show (R : ℕ) + 16 + 1 = 16 + (R + 1) by omega, Finset.sum_range_add, Finset.sum_eq_zero, zero_add]
  · refine Finset.sum_congr rfl fun j hj => ?_
    have := Finset.mem_range.mp hj
    have hR := R.isLt
    rw [padded, dif_pos (by omega), dif_pos (by omega)]
    exact congrArg u (Fin.ext (by show 16 + j - 16 = j; omega))
  · intro j hj
    have := Finset.mem_range.mp hj
    exact dif_neg (by omega)

/-- Nothing is summed before the column starts. -/
theorem running_front (u : Fin 4096 → EReal) (t : ℕ) (h : t < 16) : running u t = 0 :=
  Finset.sum_eq_zero fun j hj => dif_neg (by have := Finset.mem_range.mp hj; omega)

/-- The running sums behind sixteen zeros. -/
theorem padded_at (x1 : FVec Ideal S4096x512 .f32) (t : Fin 4112) (C : Fin 512) :
    val_main_v1 (F := Ideal) x1 (ix2 t C) = running (fun j => x1 (ix2 j C)) t := by
  have ht := t.isLt
  by_cases h : (t : ℕ) < 16
  · rw [running_front _ _ h]
    pointwise [val_main_v1, val_main_call1_v0, val_main_c]
    rw [dif_neg (by omega)]
    exact sitofp_zero (φ := .f32)
  · have e := running_skip (fun j => x1 (ix2 j C)) ⟨t - 16, by omega⟩
    rw [show (((⟨t - 16, by omega⟩ : Fin 4096) : ℕ) + 16) = t by show (t : ℕ) - 16 + 16 = t; omega] at e
    rw [e, ← sums_at]
    pointwise [val_main_v1]
    rw [dif_pos (by omega)]

theorem pool0 (x1 : FVec Ideal S4096x512 .f32) (hx : ∀ i, x1 i ≠ ⊤ ∧ x1 i ≠ ⊥) (R : Fin 4096) (k : Fin 128) :
    val_main_v15 (F := Ideal) x1 (ix2 R k) = centred (fun j => x1 (ix2 j ⟨k, by omega⟩)) 2 2#32 R := by
  rw [centred, ← running_sub _ (fun j => hx _) 2 (R + 16) (14 + R) (by omega)]
  unfold val_main_v15 val_main_v13 val_main_v11 val_main_v3 val_main_v4
  have hp := padded_at x1
  generalize val_main_v1 (F := Ideal) x1 = p at hp
  pointwise [val_main_v14, val_main_v12, val_main_v10, val_main_v9,
    val_main_v8, val_main_v7, val_main_v6, val_main_v5, val_main_c_1, val_main_c_0, val_main_v2]
  simp only [hp, Nat.add_comm 16]
  rfl

theorem pool1 (x1 : FVec Ideal S4096x512 .f32) (hx : ∀ i, x1 i ≠ ⊤ ∧ x1 i ≠ ⊥) (R : Fin 4096) (k : Fin 128) :
    val_main_v28 (F := Ideal) x1 (ix2 R k) = centred (fun j => x1 (ix2 j ⟨128 + k, by omega⟩)) 4 4#32 R := by
  rw [centred, ← running_sub _ (fun j => hx _) 4 (R + 16) (12 + R) (by omega)]
  unfold val_main_v28 val_main_v26 val_main_v24 val_main_v16 val_main_v17
  have hp := padded_at x1
  generalize val_main_v1 (F := Ideal) x1 = p at hp
  pointwise [val_main_v27, val_main_v25, val_main_v23, val_main_v22,
    val_main_v21, val_main_v20, val_main_v19, val_main_v18, val_main_c_3, val_main_c_2, val_main_v2]
  simp only [hp, Nat.add_comm 16]
  rfl

theorem pool2 (x1 : FVec Ideal S4096x512 .f32) (hx : ∀ i, x1 i ≠ ⊤ ∧ x1 i ≠ ⊥) (R : Fin 4096) (k : Fin 128) :
    val_main_v41 (F := Ideal) x1 (ix2 R k) = centred (fun j => x1 (ix2 j ⟨256 + k, by omega⟩)) 8 8#32 R := by
  rw [centred, ← running_sub _ (fun j => hx _) 8 (R + 16) (8 + R) (by omega)]
  unfold val_main_v41 val_main_v39 val_main_v37 val_main_v29 val_main_v30
  have hp := padded_at x1
  generalize val_main_v1 (F := Ideal) x1 = p at hp
  pointwise [val_main_v40, val_main_v38, val_main_v36, val_main_v35,
    val_main_v34, val_main_v33, val_main_v32, val_main_v31, val_main_c_5, val_main_c_4, val_main_v2]
  simp only [hp, Nat.add_comm 16]
  rfl

theorem pool3 (x1 : FVec Ideal S4096x512 .f32) (hx : ∀ i, x1 i ≠ ⊤ ∧ x1 i ≠ ⊥) (R : Fin 4096) (k : Fin 128) :
    val_main_v54 (F := Ideal) x1 (ix2 R k) = centred (fun j => x1 (ix2 j ⟨384 + k, by omega⟩)) 16 16#32 R := by
  rw [centred, ← running_sub _ (fun j => hx _) 16 (R + 16) R (by omega)]
  unfold val_main_v54 val_main_v52 val_main_v50 val_main_v42 val_main_v43
  have hp := padded_at x1
  generalize val_main_v1 (F := Ideal) x1 = p at hp
  pointwise [val_main_v53, val_main_v51, val_main_v49, val_main_v48,
    val_main_v47, val_main_v46, val_main_v45, val_main_v44, val_main_c_7, val_main_c_6, val_main_v2]
  simp only [hp, Nat.add_comm 16]
  rfl

/-- The pooled columns. -/
theorem pool_at (x1 : FVec Ideal S4096x512 .f32) (x7 : FVec Ideal S4x128x128 .f32) (x8 : FVec Ideal S512 .f32)
    (hx : ∀ i, x1 i ≠ ⊤ ∧ x1 i ≠ ⊥) (R : Fin 4096) (C : Fin 512) :
    val_main_v65 (F := Ideal) x1 x7 x8 (ix2 R C)
      = pool (fun j k => x1 (ix2 j k)) (fun g x n => x7 (ix3 g x n)) (fun k => x8 (ix1 k)) R C := by
  unfold val_main_v65 val_main_v62 val_main_v61 val_main_v60 val_main_v59 val_main_v58 val_main_v57 val_main_v56 val_main_v55
  have h0 := pool0 x1 hx
  have h1 := pool1 x1 hx
  have h2 := pool2 x1 hx
  have h3 := pool3 x1 hx
  generalize val_main_v15 (F := Ideal) x1 = p0 at h0
  generalize val_main_v28 (F := Ideal) x1 = p1 at h1
  generalize val_main_v41 (F := Ideal) x1 = p2 at h2
  generalize val_main_v54 (F := Ideal) x1 = p3 at h3
  pointwise [val_main_v64, val_main_v63]
  simp only [h0, h1, h2, h3, dite_eq_ite, pool]
  refine congrArg (· * _) (Finset.sum_congr rfl fun x _ => mul_comm _ _)

end Cert.Merge.Ref

end
-- ==== Proof.Merge.RefMem.lean ====
/- The reference's memory attention. -/
module

public import proofs.«01_k».proof.Proof.Gen.Reference4Ideal.Read
public import proofs.«01_k».proof.Proof.Merge.Math
public import Idealize.ShloMosaic.Lib.Pointwise

@[expose] public section

set_option maxRecDepth 16384

noncomputable section

namespace Cert.Merge.Ref

open Cert.Reference4Ideal Cert.Reference4Ideal.Gen Cert.Reference4Ideal.Read Idealize.ShloMosaic Idealize.ShloMosaic.TcCoe

/-- One head's scaled scores. -/
theorem scores_at (x3 : FVec Ideal S4096x512 .bf16) (x5 : FVec Ideal S1x256x512 .bf16) (h : Fin 4) (R : Fin 4096) (j : Fin 256) :
    val_main_v77 (F := Ideal) x3 x5 (ix3 h R j)
      = (∑ d : Fin 128, x3 (ix2 R ⟨(h : ℕ) * 128 + d, by omega⟩) * x5 (ix3 0 j ⟨(h : ℕ) * 128 + d, by omega⟩))
        * Ideal.ofBits FTy.f32 0x3DB504F3#32 := by
  pointwise [val_main_v77, val_main_v76, val_main_cst, val_main_v75, val_main_v72, val_main_v73, val_main_v67, val_main_v69, val_main_v68]

theorem neg_inf : Ideal.ofBits FTy.f32 0xFF800000#32 = ⊥ := by
  simp [Ideal.ofBits, Ideal.ieee]

/-- The host's maximum along the last of three axes. -/
theorem max_row {a b n : ℕ} (y : (⟨3, ![a, b, n]⟩ : Shape).Idx → EReal) (w : (⟨0, ![]⟩ : Shape).Idx → EReal)
    (h : (⟨3, ![a, b, n]⟩ : Shape).ReducesTo [2] (⟨2, ![a, b]⟩ : Shape)) (hu : 0 < (⟨0, ![]⟩ : Shape).numel) (i : Fin a) (j : Fin b) :
    Host.reduce (FloatOps.maximumf (F := Ideal) (φ := .f32)) y w h hu (ix2 i j)
      = Finset.fold max (w (Shape.Idx.first hu)) (fun k => y (ix3 i j k)) Finset.univ := by
  pointwise

theorem low_at (i : S_.Idx) : val_main_cst_8 (F := Ideal) i = Ideal.ofBits FTy.f32 0xFF800000#32 := by
  pointwise [val_main_cst_8]

/-- The largest score of a row. -/
theorem fold_at (x3 : FVec Ideal S4096x512 .bf16) (x5 : FVec Ideal S1x256x512 .bf16) (h : Fin 4) (R : Fin 4096) :
    val_main_v78 (F := Ideal) x3 x5 (ix2 h R)
      = Finset.fold max (Ideal.ofBits FTy.f32 0xFF800000#32) (fun j => val_main_v77 (F := Ideal) x3 x5 (ix3 h R j)) Finset.univ := by
  unfold val_main_v78
  rw [← low_at (Shape.Idx.first h_S_)]
  generalize val_main_v77 (F := Ideal) x3 x5 = y
  exact max_row y _ reducesTo_S4x4096x256_S4x4096_d2 h_S_ h R

theorem low9_at (i : S4x4096.Idx) : val_main_v79 (F := Ideal) i = Ideal.ofBits FTy.f32 0xFF800000#32 := by
  idx_vars i
  pointwise [val_main_v79, val_main_cst_9]

theorem max_low (z : EReal) : max (Ideal.ofBits FTy.f32 0xFF800000#32) z = z := by
  rw [neg_inf]
  exact max_eq_right bot_le

theorem top_at (x3 : FVec Ideal S4096x512 .bf16) (x5 : FVec Ideal S1x256x512 .bf16) (h : Fin 4) (R : Fin 4096) :
    val_main_v80 (F := Ideal) x3 x5 (ix2 h R)
      = Finset.fold max (Ideal.ofBits FTy.f32 0xFF800000#32) (fun j => val_main_v77 (F := Ideal) x3 x5 (ix3 h R j)) Finset.univ := by
  rw [val_main_v80_apply, low9_at, fold_at]
  exact max_low _

theorem exp_at (x3 : FVec Ideal S4096x512 .bf16) (x5 : FVec Ideal S1x256x512 .bf16) (h : Fin 4) (R : Fin 4096) (j : Fin 256) :
    val_main_v84 (F := Ideal) x3 x5 (ix3 h R j)
      = Ideal.exp (val_main_v77 (F := Ideal) x3 x5 (ix3 h R j)
        - Finset.fold max (Ideal.ofBits FTy.f32 0xFF800000#32) (fun j => val_main_v77 (F := Ideal) x3 x5 (ix3 h R j)) Finset.univ) := by
  rw [← top_at]
  unfold val_main_v84 val_main_v83 val_main_v82 val_main_v81
  generalize val_main_v80 (F := Ideal) x3 x5 = y
  generalize val_main_v77 (F := Ideal) x3 x5 = z
  pointwise

/-- One head's weights. -/
theorem weights_at (x3 : FVec Ideal S4096x512 .bf16) (x5 : FVec Ideal S1x256x512 .bf16) (h : Fin 4) (R : Fin 4096) (j : Fin 256)
    (S : Fin 256 → EReal) (hS : ∀ j, val_main_v77 (F := Ideal) x3 x5 (ix3 h R j) = S j) :
    val_main_v88 (F := Ideal) x3 x5 (ix3 h R j)
      = Ideal.div (Ideal.exp (S j - Finset.fold max (Ideal.ofBits FTy.f32 0xFF800000#32) S Finset.univ))
    (∑ k, Ideal.exp (S k - Finset.fold max (Ideal.ofBits FTy.f32 0xFF800000#32) S Finset.univ)) := by
  have e : (fun j => val_main_v77 (F := Ideal) x3 x5 (ix3 h R j)) = S := funext hS
  have he := fun j => exp_at x3 x5 h R j
  simp only [e, hS] at he
  unfold val_main_v88 val_main_v87 val_main_v86 val_main_v85
  generalize val_main_v84 (F := Ideal) x3 x5 = y at he ⊢
  pointwise [val_main_cst_10]
  simp only [he]

/-- The reference's memory attention. -/
theorem recall_at (x3 : FVec Ideal S4096x512 .bf16) (x5 x6 : FVec Ideal S1x256x512 .bf16) (R : Fin 4096) (C : Fin 512) :
    val_main_v91 (F := Ideal) x3 x5 x6 (ix2 R C)
      = recall (fun c => x3 (ix2 R c)) (fun j c => x5 (ix3 0 j c)) (fun j c => x6 (ix3 0 j c)) C := by
  unfold val_main_v91 val_main_v90 val_main_v89
  have hp := fun h j => weights_at x3 x5 h R j _ (scores_at x3 x5 h R)
  generalize val_main_v88 (F := Ideal) x3 x5 = p at hp
  pointwise [val_main_v74, val_main_v71, val_main_v70]
  unfold recall soft
  refine Finset.sum_congr rfl fun j _ => ?_
  rw [mul_comm, hp]

end Cert.Merge.Ref

end
-- ==== Proof.Merge.RefOut.lean ====
/- The reference of the merge: its three results. -/
module

public import proofs.«01_k».proof.Proof.Merge.RefPool
public import proofs.«01_k».proof.Proof.Merge.RefMem
public import proofs.«01_k».proof.Proof.Inproj.Norm

@[expose] public section

set_option maxRecDepth 16384

noncomputable section

namespace Cert.Merge.Ref

open Cert.Reference4Ideal Cert.Reference4Ideal.Gen Cert.Reference4Ideal.Read Idealize.ShloMosaic Idealize.ShloMosaic.TcCoe

/-- A gate of the reference. -/
theorem gate_at (x4 : FVec Ideal S4096x3072 .f32) (R : Fin 4096) (b : Fin 3) (k : Fin 1024) :
    val_main_v98 (F := Ideal) x4 (ix3 R b k) = gate (x4 (ix2 R ⟨(b : ℕ) * 1024 + k, by omega⟩)) := by
  pointwise [val_main_v98, val_main_v97, val_main_v96, val_main_v95, val_main_v94, val_main_v93, val_main_v92, val_main_cst_11, val_main_cst_12]
  exact gate_eq _

/-- The gated sum of the branches. -/
theorem merged_at (x1 : FVec Ideal S4096x512 .f32) (x2 : FVec Ideal S4096x1024 .bf16) (x3 : FVec Ideal S4096x512 .bf16)
    (x4 : FVec Ideal S4096x3072 .f32) (x5 x6 : FVec Ideal S1x256x512 .bf16) (x7 : FVec Ideal S4x128x128 .f32) (x8 : FVec Ideal S512 .f32)
    (x9 : FVec Ideal S512x1024 .f32) (x10 : FVec Ideal S1024x1024 .f32) (x11 : FVec Ideal S512x1024 .f32)
    (hx : ∀ i, x1 i ≠ ⊤ ∧ x1 i ≠ ⊥) (R : Fin 4096) (k : Fin 1024) :
    val_main_v112 (F := Ideal) x1 x2 x3 x4 x5 x6 x7 x8 x9 x10 x11 (ix2 R k)
      = gate (x4 (ix2 R ⟨k, by omega⟩)) * (∑ j, pool (fun j k => x1 (ix2 j k)) (fun g x n => x7 (ix3 g x n)) (fun k => x8 (ix1 k)) R j * x9 (ix2 j k))
        + gate (x4 (ix2 R ⟨1024 + k, by omega⟩)) * (∑ j, x2 (ix2 R j) * x10 (ix2 j k))
        + gate (x4 (ix2 R ⟨2048 + k, by omega⟩))
          * ∑ j, recall (fun c => x3 (ix2 R c)) (fun j c => x5 (ix3 0 j c)) (fun j c => x6 (ix3 0 j c)) j * x11 (ix2 j k) := by
  unfold val_main_v112 val_main_v111 val_main_v110 val_main_v109 val_main_v108 val_main_v107 val_main_v106 val_main_v105 val_main_v104
    val_main_v103 val_main_v102 val_main_v101 val_main_v100 val_main_v99
  have h0 := pool_at x1 x7 x8 hx
  have h1 := recall_at x3 x5 x6
  have h2 := gate_at x4
  generalize val_main_v65 (F := Ideal) x1 x7 x8 = p at h0 ⊢
  generalize val_main_v91 (F := Ideal) x3 x5 x6 = q at h1 ⊢
  generalize val_main_v98 (F := Ideal) x4 = g at h2 ⊢
  pointwise [val_main_v66]
  simp only [h0, h1, h2]
  have e0 : (⟨((0 : Fin 3) : ℕ) * 1024 + k, by have := k.isLt; show 0 * 1024 + _ < _; omega⟩ : Fin 3072) = ⟨k, by omega⟩ :=
    Fin.ext (by show 0 * 1024 + (k : ℕ) = k; omega)
  rw [e0]
  rfl

/-- Entry `C` of row `R` of the residual sum. -/
def X (x0 : FVec Ideal S4096x1024 .f32) (x1 : FVec Ideal S4096x512 .f32) (x2 : FVec Ideal S4096x1024 .bf16) (x3 : FVec Ideal S4096x512 .bf16) (x4 : FVec Ideal S4096x3072 .f32) (x5 x6 : FVec Ideal S1x256x512 .bf16) (x7 : FVec Ideal S4x128x128 .f32) (x8 : FVec Ideal S512 .f32)
    (x9 : FVec Ideal S512x1024 .f32) (x10 : FVec Ideal S1024x1024 .f32) (x11 : FVec Ideal S512x1024 .f32) (x12 : FVec Ideal S1024x1024 .f32)
    (R : Fin 4096) (C : Fin 1024) : EReal :=
  gated (x0 (ix2 R C)) (pool (fun j k => x1 (ix2 j k)) (fun g x n => x7 (ix3 g x n)) (fun k => x8 (ix1 k)) R)
    (recall (fun c => x3 (ix2 R c)) (fun j c => x5 (ix3 0 j c)) (fun j c => x6 (ix3 0 j c))) (fun j => x2 (ix2 R j))
    (fun k => x4 (ix2 R ⟨k, by omega⟩)) (fun k => x4 (ix2 R ⟨1024 + k, by omega⟩)) (fun k => x4 (ix2 R ⟨2048 + k, by omega⟩))
    (fun j k => x9 (ix2 j k)) (fun j k => x11 (ix2 j k)) (fun j k => x10 (ix2 j k)) (fun k => x12 (ix2 k C))

/-- The first result. -/
theorem x1_at (x0 : FVec Ideal S4096x1024 .f32) (x1 : FVec Ideal S4096x512 .f32) (x2 : FVec Ideal S4096x1024 .bf16) (x3 : FVec Ideal S4096x512 .bf16) (x4 : FVec Ideal S4096x3072 .f32) (x5 x6 : FVec Ideal S1x256x512 .bf16) (x7 : FVec Ideal S4x128x128 .f32) (x8 : FVec Ideal S512 .f32)
    (x9 : FVec Ideal S512x1024 .f32) (x10 : FVec Ideal S1024x1024 .f32) (x11 : FVec Ideal S512x1024 .f32) (x12 : FVec Ideal S1024x1024 .f32)
    (hx : ∀ i, x1 i ≠ ⊤ ∧ x1 i ≠ ⊥) (R : Fin 4096) (C : Fin 1024) :
    val_main_v114 (F := Ideal) x0 x1 x2 x3 x4 x5 x6 x7 x8 x9 x10 x11 x12 (ix2 R C)
      = X x0 x1 x2 x3 x4 x5 x6 x7 x8 x9 x10 x11 x12 R C := by
  unfold val_main_v114 val_main_v113
  have h := merged_at x1 x2 x3 x4 x5 x6 x7 x8 x9 x10 x11 hx R
  generalize val_main_v112 (F := Ideal) x1 x2 x3 x4 x5 x6 x7 x8 x9 x10 x11 = p at h ⊢
  pointwise
  simp only [h]
  rfl

/-- The second result. -/
theorem h2_at (x0 : FVec Ideal S4096x1024 .f32) (x1 : FVec Ideal S4096x512 .f32) (x2 : FVec Ideal S4096x1024 .bf16) (x3 : FVec Ideal S4096x512 .bf16) (x4 : FVec Ideal S4096x3072 .f32) (x5 x6 : FVec Ideal S1x256x512 .bf16) (x7 : FVec Ideal S4x128x128 .f32) (x8 : FVec Ideal S512 .f32)
    (x9 : FVec Ideal S512x1024 .f32) (x10 : FVec Ideal S1024x1024 .f32) (x11 : FVec Ideal S512x1024 .f32) (x12 : FVec Ideal S1024x1024 .f32) (x13 : FVec Ideal S1024 .f32)
    (hx : ∀ i, x1 i ≠ ⊤ ∧ x1 i ≠ ⊥) (R : Fin 4096) (C : Fin 1024) :
    val_main_v127 (F := Ideal) x0 x1 x2 x3 x4 x5 x6 x7 x8 x9 x10 x11 x12 x13 (ix2 R C)
      = Cert.Inproj.norm (X x0 x1 x2 x3 x4 x5 x6 x7 x8 x9 x10 x11 x12 R) (fun j => x13 (ix1 j)) C := by
  unfold val_main_v127 val_main_v126 val_main_v125 val_main_v124 val_main_v123 val_main_v122 val_main_v121 val_main_v119 val_main_v117 val_main_v116 val_main_v115
  have h := x1_at x0 x1 x2 x3 x4 x5 x6 x7 x8 x9 x10 x11 x12 hx R
  generalize val_main_v114 (F := Ideal) x0 x1 x2 x3 x4 x5 x6 x7 x8 x9 x10 x11 x12 = p at h ⊢
  pointwise [val_main_v120, val_main_v118, val_main_cst_13, val_main_cst_14, val_main_cst_15]
  simp only [h]
  rfl

/-- The third result. -/
theorem qp_at (x0 : FVec Ideal S4096x1024 .f32) (x1 : FVec Ideal S4096x512 .f32) (x2 : FVec Ideal S4096x1024 .bf16) (x3 : FVec Ideal S4096x512 .bf16) (x4 : FVec Ideal S4096x3072 .f32) (x5 x6 : FVec Ideal S1x256x512 .bf16) (x7 : FVec Ideal S4x128x128 .f32) (x8 : FVec Ideal S512 .f32)
    (x9 : FVec Ideal S512x1024 .f32) (x10 : FVec Ideal S1024x1024 .f32) (x11 : FVec Ideal S512x1024 .f32) (x12 : FVec Ideal S1024x1024 .f32) (x13 : FVec Ideal S1024 .f32) (x14 : FVec Ideal S1024x2048 .f32)
    (hx : ∀ i, x1 i ≠ ⊤ ∧ x1 i ≠ ⊥) (j : Fin 16) (R : Fin 4096) (n : Fin 128) :
    val_main_v131 (F := Ideal) x0 x1 x2 x3 x4 x5 x6 x7 x8 x9 x10 x11 x12 x13 x14 (ix3 j R n)
      = ∑ k, Cert.Inproj.norm (X x0 x1 x2 x3 x4 x5 x6 x7 x8 x9 x10 x11 x12 R) (fun j => x13 (ix1 j)) k
        * x14 (ix2 k ⟨(j : ℕ) * 128 + n, by omega⟩) := by
  unfold val_main_v131 val_main_v130 val_main_v129 val_main_v128
  have h := h2_at x0 x1 x2 x3 x4 x5 x6 x7 x8 x9 x10 x11 x12 x13 hx R
  generalize val_main_v127 (F := Ideal) x0 x1 x2 x3 x4 x5 x6 x7 x8 x9 x10 x11 x12 x13 = p at h ⊢
  pointwise
  simp only [h]

end Cert.Merge.Ref

end
-- ==== Proof.Merge.Pool.lean ====
/- The kernel's pooling of one tile. -/
module

public import proofs.«01_k».proof.Proof.Gen.Kernel4Ideal.Frame
public import proofs.«01_k».proof.Proof.Merge.Math
public import Idealize.ShloMosaic.Lib.Pointwise

@[expose] public section

set_option maxRecDepth 16384

noncomputable section

namespace Cert.Merge

open Cert.Kernel4Ideal Cert.Kernel4Ideal.Gen Idealize.ShloMosaic Idealize.ShloMosaic.TcCoe

/-- A tile's rows behind sixteen earlier rows, turned by one row and added to themselves. -/
theorem step1 (S : FVec Ideal S272x128 .f32) (s : ℕ → EReal) (lo : ℕ) (c : Fin 128)
    (hS : ∀ a : Fin 272, lo ≤ (a : ℕ) → S (ix2 a c) = s a) (a : Fin 272) (ha : lo + 1 ≤ (a : ℕ)) :
    addf S (dynamicRotate 0 1#32 none S rotates_S272x128_d0) (ix2 a c) = twice 1 s a := by
  have e : (⟨((a : ℕ) + 272 - 1) % 272, by omega⟩ : Fin 272) = ⟨a - 1, by omega⟩ := Fin.ext (by dsimp only; omega)
  pointwise
  rw [e, hS a (by omega), hS _ (by dsimp only; omega)]
  rfl

theorem step2 (S : FVec Ideal S272x128 .f32) (s : ℕ → EReal) (lo : ℕ) (c : Fin 128)
    (hS : ∀ a : Fin 272, lo ≤ (a : ℕ) → S (ix2 a c) = s a) (a : Fin 272) (ha : lo + 2 ≤ (a : ℕ)) :
    addf S (dynamicRotate 0 2#32 none S rotates_S272x128_d0) (ix2 a c) = twice 2 s a := by
  have e : (⟨((a : ℕ) + 272 - 2) % 272, by omega⟩ : Fin 272) = ⟨a - 2, by omega⟩ := Fin.ext (by dsimp only; omega)
  pointwise
  rw [e, hS a (by omega), hS _ (by dsimp only; omega)]
  rfl

theorem step4 (S : FVec Ideal S272x128 .f32) (s : ℕ → EReal) (lo : ℕ) (c : Fin 128)
    (hS : ∀ a : Fin 272, lo ≤ (a : ℕ) → S (ix2 a c) = s a) (a : Fin 272) (ha : lo + 4 ≤ (a : ℕ)) :
    addf S (dynamicRotate 0 4#32 none S rotates_S272x128_d0) (ix2 a c) = twice 4 s a := by
  have e : (⟨((a : ℕ) + 272 - 4) % 272, by omega⟩ : Fin 272) = ⟨a - 4, by omega⟩ := Fin.ext (by dsimp only; omega)
  pointwise
  rw [e, hS a (by omega), hS _ (by dsimp only; omega)]
  rfl

theorem step8 (S : FVec Ideal S272x128 .f32) (s : ℕ → EReal) (lo : ℕ) (c : Fin 128)
    (hS : ∀ a : Fin 272, lo ≤ (a : ℕ) → S (ix2 a c) = s a) (a : Fin 272) (ha : lo + 8 ≤ (a : ℕ)) :
    addf S (dynamicRotate 0 8#32 none S rotates_S272x128_d0) (ix2 a c) = twice 8 s a := by
  have e : (⟨((a : ℕ) + 272 - 8) % 272, by omega⟩ : Fin 272) = ⟨a - 8, by omega⟩ := Fin.ext (by dsimp only; omega)
  pointwise
  rw [e, hS a (by omega), hS _ (by dsimp only; omega)]
  rfl

/-- A tile's number, as the kernel works it out, times the tile's height. -/
theorem tile_word : ∀ t : Fin grid0.N, Scalar.muli (Scalar.select (Scalar.andi (Scalar.xori (Scalar.cmpi .slt (Scalar.remsi (BitVec.ofNat 32 (grid0.coords t 0).val) (Scalar.select (Scalar.cmpi .eq 16#32 0#32) 1#32 16#32)) 0#32)
      (Scalar.cmpi .slt (Scalar.select (Scalar.cmpi .eq 16#32 0#32) 1#32 16#32) 0#32)) (Scalar.cmpi .ne (Scalar.remsi (BitVec.ofNat 32 (grid0.coords t 0).val) (Scalar.select (Scalar.cmpi .eq 16#32 0#32) 1#32 16#32)) 0#32))
      (Scalar.addi (Scalar.remsi (BitVec.ofNat 32 (grid0.coords t 0).val) (Scalar.select (Scalar.cmpi .eq 16#32 0#32) 1#32 16#32)) (Scalar.select (Scalar.cmpi .eq 16#32 0#32) 1#32 16#32)) (Scalar.remsi (BitVec.ofNat 32 (grid0.coords t 0).val) (Scalar.select (Scalar.cmpi .eq 16#32 0#32) 1#32 16#32))) 256#32
      = BitVec.ofNat 32 (t.val * 256) := by decide +kernel

/-- Whether a tile is the first of its sequence. -/
theorem tile_bit : ∀ t : Fin grid0.N, Scalar.cmpi .sgt (Scalar.select (Scalar.andi (Scalar.xori (Scalar.cmpi .slt (Scalar.remsi (BitVec.ofNat 32 (grid0.coords t 0).val) (Scalar.select (Scalar.cmpi .eq 16#32 0#32) 1#32 16#32)) 0#32)
      (Scalar.cmpi .slt (Scalar.select (Scalar.cmpi .eq 16#32 0#32) 1#32 16#32) 0#32)) (Scalar.cmpi .ne (Scalar.remsi (BitVec.ofNat 32 (grid0.coords t 0).val) (Scalar.select (Scalar.cmpi .eq 16#32 0#32) 1#32 16#32)) 0#32))
      (Scalar.addi (Scalar.remsi (BitVec.ofNat 32 (grid0.coords t 0).val) (Scalar.select (Scalar.cmpi .eq 16#32 0#32) 1#32 16#32)) (Scalar.select (Scalar.cmpi .eq 16#32 0#32) 1#32 16#32)) (Scalar.remsi (BitVec.ofNat 32 (grid0.coords t 0).val) (Scalar.select (Scalar.cmpi .eq 16#32 0#32) 1#32 16#32))) 0#32
      = if t.val = 0 then 0#1 else 1#1 := by decide +kernel

/-- The tile's word for a row is the row's number in the whole column. -/
theorem row_word (t : Fin cfg0.N) (r : Fin 256) : k0_pay3 (grid0.coords t) (ix2 r 0) = BitVec.ofNat 32 (t.val * 256 + r) := by
  have h := tile_word t
  unfold k0_pay3
  dsimp only
  rw [h]
  pointwise
  simp [IntOp.addi, BitVec.ofNat_add]

/-- The rows before the tile; the first tile has none. -/
theorem halo_at (t : Fin cfg0.N) (v : FVec Ideal S16x512 .f32) (a : Fin 16) (c : Fin 512) :
    k0_pay2 (F := Ideal) (grid0.coords t) v (ix2 a c) = if t.val = 0 then 0 else v (ix2 a c) := by
  have h := tile_bit t
  unfold k0_pay2
  dsimp only
  rw [h]
  split
  · pointwise
  · rfl

/-- The tile's rows behind the rows before it. -/
theorem column (t : ℕ) (w : FVec Ideal S16x128 .f32) (v : FVec Ideal S256x128 .f32) (u : Fin 4096 → EReal) (c : Fin 128)
    (ht : t < 16) (hw : ∀ a : Fin 16, w (ix2 a c) = padded u (t * 256 + a))
    (hv : ∀ r : Fin 256, v (ix2 r c) = u ⟨t * 256 + r, by omega⟩) (a : Fin 272) :
    concatenate (α := Ideal .f32) S272x128 0 [⟨S16x128, w⟩, ⟨S256x128, v⟩] concatenates_S16x128_S256x128_S272x128_d0 (ix2 a c)
      = padded u (t * 256 + a) := by
  pointwise
  by_cases h : (a : ℕ) < 16
  · rw [dif_pos h, hw]
  · rw [dif_neg h, hv, padded, dif_pos (by omega)]
    exact congrArg u (Fin.ext (by dsimp only; omega))

/-- The kernel's windows are the column's. -/
theorem window_eq (u : Fin 4096 → EReal) (t w : ℕ) (r : Fin 256) (hw : w ≤ 16) :
    ∑ d ∈ Finset.range w, padded u (t * 256 + (16 + (r : ℕ) - d)) = window u w (t * 256 + r + 16) :=
  Finset.sum_congr rfl fun d hd => congrArg _ (by have := Finset.mem_range.mp hd; omega)

/-- The group of windows of 2 rows. -/
theorem mixed2 (i : grid0.Coords) (v11 : FVec Ideal S16x512 .f32) (v : FVec Ideal S256x128 .f32) (wp : FVec Ideal S1x128x128 .bf16)
    (U : Fin 4096 → Fin 512 → EReal) (t : ℕ) (ht : t < 16)
    (hq : ∀ r : Fin 256, k0_pay3 i (ix2 r 0) = BitVec.ofNat 32 (t * 256 + r))
    (hh : ∀ (a : Fin 16) (c : Fin 512), (k0_pay2 (F := Ideal) i v11) (ix2 a c) = padded (fun j => U j c) (t * 256 + a))
    (hv : ∀ (r : Fin 256) (c : Fin 128), v (ix2 r c) = U ⟨t * 256 + r, by omega⟩ ⟨c, by omega⟩)
    (r : Fin 256) (n : Fin 128) :
    k0_pay4 (F := Ideal) i v11 v wp (ix2 r n)
      = ∑ x : Fin 128, centred (fun j => U j ⟨x, by omega⟩) 2 2#32 ⟨t * 256 + r, by omega⟩ * wp (ix3 0 x n) := by
  have h0 := fun c : Fin 128 => column t (extractStridedSlice S16x128 ![0, 0] (k0_pay2 (F := Ideal) i v11) slices_S16x512_o0_0_S16x128) v
    (fun j => U j ⟨c, by omega⟩) c ht (fun a => by pointwise; exact hh a ⟨c, by omega⟩) (fun r => hv r c)
  have h1 := fun c : Fin 128 => step1 (concatenate (α := Ideal .f32) S272x128 0
    [⟨S16x128, extractStridedSlice S16x128 ![0, 0] (k0_pay2 (F := Ideal) i v11) slices_S16x512_o0_0_S16x128⟩, ⟨S256x128, v⟩] concatenates_S16x128_S256x128_S272x128_d0)
    (fun a => padded (fun j => U j ⟨c, by omega⟩) (t * 256 + a)) 0 c (fun a ha => h0 c a)
  unfold k0_pay4
  dsimp only
  generalize addf (F := Ideal) (φ := .f32) _ (dynamicRotate (0 : Fin S272x128.rank) 1#32 _ _ _) = T at h1 ⊢
  generalize k0_pay3 i = q at hq ⊢
  pointwise
  refine Finset.sum_congr rfl fun x _ => ?_
  rw [h1 x _ (by dsimp only; omega), hv, hq, twice1]
  dsimp only
  rw [window_eq _ _ _ _ (by omega)]
  rfl

/-- The group of windows of 4 rows. -/
theorem mixed4 (v13 : FVec Ideal S16x512 .f32) (q : IVec S256x1 32) (v : FVec Ideal S256x128 .f32) (wp : FVec Ideal S1x128x128 .bf16)
    (U : Fin 4096 → Fin 512 → EReal) (t : ℕ) (ht : t < 16)
    (hq : ∀ r : Fin 256, q (ix2 r 0) = BitVec.ofNat 32 (t * 256 + r))
    (hh : ∀ (a : Fin 16) (c : Fin 512), v13 (ix2 a c) = padded (fun j => U j c) (t * 256 + a))
    (hv : ∀ (r : Fin 256) (c : Fin 128), v (ix2 r c) = U ⟨t * 256 + r, by omega⟩ ⟨128 + c, by omega⟩)
    (r : Fin 256) (n : Fin 128) :
    k0_pay5 (F := Ideal) v13 q v wp (ix2 r n)
      = ∑ x : Fin 128, centred (fun j => U j ⟨128 + x, by omega⟩) 4 4#32 ⟨t * 256 + r, by omega⟩ * wp (ix3 0 x n) := by
  have h0 := fun c : Fin 128 => column t (extractStridedSlice S16x128 ![0, 128] v13 slices_S16x512_o0_128_S16x128) v
    (fun j => U j ⟨128 + c, by omega⟩) c ht (fun a => by pointwise; exact hh a ⟨128 + c, by omega⟩) (fun r => hv r c)
  have h1 := fun c : Fin 128 => step1 (concatenate (α := Ideal .f32) S272x128 0
    [⟨S16x128, extractStridedSlice S16x128 ![0, 128] v13 slices_S16x512_o0_128_S16x128⟩, ⟨S256x128, v⟩] concatenates_S16x128_S256x128_S272x128_d0)
    (fun a => padded (fun j => U j ⟨128 + c, by omega⟩) (t * 256 + a)) 0 c (fun a ha => h0 c a)
  have h2 := fun c : Fin 128 => step2 _ _ 1 c (fun a ha => h1 c a ha)
  unfold k0_pay5
  dsimp only
  generalize addf (F := Ideal) (φ := .f32) _ (dynamicRotate (0 : Fin S272x128.rank) 2#32 _ _ _) = T at h2 ⊢
  skip
  pointwise
  refine Finset.sum_congr rfl fun x _ => ?_
  rw [h2 x _ (by dsimp only; omega), hv, hq, twice2]
  dsimp only
  rw [window_eq _ _ _ _ (by omega)]
  rfl

/-- The group of windows of 8 rows. -/
theorem mixed8 (v13 : FVec Ideal S16x512 .f32) (q : IVec S256x1 32) (v : FVec Ideal S256x128 .f32) (wp : FVec Ideal S1x128x128 .bf16)
    (U : Fin 4096 → Fin 512 → EReal) (t : ℕ) (ht : t < 16)
    (hq : ∀ r : Fin 256, q (ix2 r 0) = BitVec.ofNat 32 (t * 256 + r))
    (hh : ∀ (a : Fin 16) (c : Fin 512), v13 (ix2 a c) = padded (fun j => U j c) (t * 256 + a))
    (hv : ∀ (r : Fin 256) (c : Fin 128), v (ix2 r c) = U ⟨t * 256 + r, by omega⟩ ⟨256 + c, by omega⟩)
    (r : Fin 256) (n : Fin 128) :
    k0_pay6 (F := Ideal) v13 q v wp (ix2 r n)
      = ∑ x : Fin 128, centred (fun j => U j ⟨256 + x, by omega⟩) 8 8#32 ⟨t * 256 + r, by omega⟩ * wp (ix3 0 x n) := by
  have h0 := fun c : Fin 128 => column t (extractStridedSlice S16x128 ![0, 256] v13 slices_S16x512_o0_256_S16x128) v
    (fun j => U j ⟨256 + c, by omega⟩) c ht (fun a => by pointwise; exact hh a ⟨256 + c, by omega⟩) (fun r => hv r c)
  have h1 := fun c : Fin 128 => step1 (concatenate (α := Ideal .f32) S272x128 0
    [⟨S16x128, extractStridedSlice S16x128 ![0, 256] v13 slices_S16x512_o0_256_S16x128⟩, ⟨S256x128, v⟩] concatenates_S16x128_S256x128_S272x128_d0)
    (fun a => padded (fun j => U j ⟨256 + c, by omega⟩) (t * 256 + a)) 0 c (fun a ha => h0 c a)
  have h2 := fun c : Fin 128 => step2 _ _ 1 c (fun a ha => h1 c a ha)
  have h4 := fun c : Fin 128 => step4 _ _ 3 c (fun a ha => h2 c a ha)
  unfold k0_pay6
  dsimp only
  generalize addf (F := Ideal) (φ := .f32) _ (dynamicRotate (0 : Fin S272x128.rank) 4#32 _ _ _) = T at h4 ⊢
  skip
  pointwise
  refine Finset.sum_congr rfl fun x _ => ?_
  rw [h4 x _ (by dsimp only; omega), hv, hq, twice4]
  dsimp only
  rw [window_eq _ _ _ _ (by omega)]
  rfl

/-- The group of windows of 16 rows. -/
theorem mixed16 (T : FVec Ideal S272x128 .f32) (q : IVec S256x1 32) (v : FVec Ideal S256x128 .f32) (wp : FVec Ideal S1x128x128 .bf16)
    (U : Fin 4096 → Fin 512 → EReal) (t : ℕ) (ht : t < 16)
    (hq : ∀ r : Fin 256, q (ix2 r 0) = BitVec.ofNat 32 (t * 256 + r))
    (hv : ∀ (r : Fin 256) (c : Fin 128), v (ix2 r c) = U ⟨t * 256 + r, by omega⟩ ⟨384 + c, by omega⟩)
    (hT : ∀ (c : Fin 128) (a : Fin 272), 7 + 8 ≤ (a : ℕ) → T (ix2 a c)
      = twice 8 (twice 4 (twice 2 (twice 1 fun a => padded (fun j => U j ⟨384 + c, by omega⟩) (t * 256 + a)))) a)
    (r : Fin 256) (n : Fin 128) :
    matmul (F := Ideal) dot_S256x128_S128x128_S256x128_1_0_0_1_n_n none
        (truncf .bf16 (subf (divf (extractStridedSlice S256x128 ![16, 0] T slices_S272x128_o16_0_S256x128)
          (broadcastTo S256x128 (sitofp .f32 (minsi (addi q (broadcast S256x1 1#32)) (broadcast S256x1 16#32))) broadcasts_S256x1_S256x128)) v)
          bitsLt_bf16_f32) (shapeCast S128x128 wp shapeCasts_S1x128x128_S128x128) (constant S256x128 .f32 0x00000000#32) (ix2 r n)
      = ∑ x : Fin 128, centred (fun j => U j ⟨384 + x, by omega⟩) 16 16#32 ⟨t * 256 + r, by omega⟩ * wp (ix3 0 x n) := by
  pointwise
  refine Finset.sum_congr rfl fun x _ => ?_
  rw [hT x _ (by dsimp only; omega), hv, hq, twice8]
  dsimp only
  rw [window_eq _ _ _ _ (by omega)]
  rfl

/-- The four groups side by side, scaled. -/
theorem pool_sides (U : Fin 4096 → Fin 512 → EReal) (w : Fin 4 → Fin 128 → Fin 128 → EReal) (sc : Fin 512 → EReal) (R : Fin 4096) (C : Fin 512)
    (a b c d : Fin 128 → EReal)
    (ha : ∀ n, a n = ∑ x : Fin 128, centred (fun j => U j ⟨x, by omega⟩) 2 2#32 R * w 0 x n)
    (hb : ∀ n, b n = ∑ x : Fin 128, centred (fun j => U j ⟨128 + x, by omega⟩) 4 4#32 R * w 1 x n)
    (hc : ∀ n, c n = ∑ x : Fin 128, centred (fun j => U j ⟨256 + x, by omega⟩) 8 8#32 R * w 2 x n)
    (hd : ∀ n, d n = ∑ x : Fin 128, centred (fun j => U j ⟨384 + x, by omega⟩) 16 16#32 R * w 3 x n) :
    (if h : (C : ℕ) < 128 then a ⟨C, h⟩ else if h : (C : ℕ) - 128 < 128 then b ⟨C - 128, h⟩
      else if h : (C : ℕ) - 128 - 128 < 128 then c ⟨C - 128 - 128, h⟩ else d ⟨C - 128 - 128 - 128, by omega⟩) * sc C
      = pool U w sc R C := by
  have hC := C.isLt
  unfold pool
  refine congrArg (· * _) ?_
  by_cases c1 : (C : ℕ) < 128
  · rw [dif_pos c1, ha]
    refine Finset.sum_congr rfl fun x _ => ?_
    have e1 : (⟨(C : ℕ) / 128, by omega⟩ : Fin 4) = 0 := Fin.ext (by show (C : ℕ) / 128 = 0; omega)
    have e2 : (⟨(C : ℕ) % 128, by omega⟩ : Fin 128) = ⟨(C : ℕ), by omega⟩ := Fin.ext (by dsimp only; omega)
    rw [e1, e2, if_pos (by omega)]
  rw [dif_neg c1]
  by_cases c2 : (C : ℕ) - 128 < 128
  · rw [dif_pos c2, hb]
    refine Finset.sum_congr rfl fun x _ => ?_
    have e1 : (⟨(C : ℕ) / 128, by omega⟩ : Fin 4) = 1 := Fin.ext (by show (C : ℕ) / 128 = 1; omega)
    have e2 : (⟨(C : ℕ) % 128, by omega⟩ : Fin 128) = ⟨(C : ℕ) - 128, by omega⟩ := Fin.ext (by dsimp only; omega)
    rw [e1, e2, if_neg (by omega), if_pos (by omega)]
  rw [dif_neg c2]
  by_cases c3 : (C : ℕ) - 128 - 128 < 128
  · rw [dif_pos c3, hc]
    refine Finset.sum_congr rfl fun x _ => ?_
    have e1 : (⟨(C : ℕ) / 128, by omega⟩ : Fin 4) = 2 := Fin.ext (by show (C : ℕ) / 128 = 2; omega)
    have e2 : (⟨(C : ℕ) % 128, by omega⟩ : Fin 128) = ⟨(C : ℕ) - 128 - 128, by omega⟩ := Fin.ext (by dsimp only; omega)
    rw [e1, e2, if_neg (by omega), if_neg (by omega), if_pos (by omega)]
  rw [dif_neg c3, hd]
  refine Finset.sum_congr rfl fun x _ => ?_
  have e1 : (⟨(C : ℕ) / 128, by omega⟩ : Fin 4) = 3 := Fin.ext (by show (C : ℕ) / 128 = 3; omega)
  have e2 : (⟨(C : ℕ) % 128, by omega⟩ : Fin 128) = ⟨(C : ℕ) - 128 - 128 - 128, by omega⟩ := Fin.ext (by dsimp only; omega)
  rw [e1, e2, if_neg (by omega), if_neg (by omega), if_neg (by omega)]

/-- The four groups side by side, scaled; the last of windows of 16 rows. -/
theorem pooled (v13 : FVec Ideal S16x512 .f32) (q : IVec S256x1 32) (v35 v55 v77 : FVec Ideal S256x128 .f32) (v : FVec Ideal S256x128 .f32)
    (wp : FVec Ideal S1x128x128 .bf16) (sc : FVec Ideal S1x512 .f32)
    (U : Fin 4096 → Fin 512 → EReal) (w : Fin 4 → Fin 128 → Fin 128 → EReal) (t : ℕ) (ht : t < 16)
    (hq : ∀ r : Fin 256, q (ix2 r 0) = BitVec.ofNat 32 (t * 256 + r))
    (hh : ∀ (a : Fin 16) (c : Fin 512), v13 (ix2 a c) = padded (fun j => U j c) (t * 256 + a))
    (hv : ∀ (r : Fin 256) (c : Fin 128), v (ix2 r c) = U ⟨t * 256 + r, by omega⟩ ⟨384 + c, by omega⟩)
    (hw : ∀ x n, wp (ix3 0 x n) = w 3 x n)
    (h35 : ∀ (r : Fin 256) (n : Fin 128), v35 (ix2 r n)
      = ∑ x : Fin 128, centred (fun j => U j ⟨x, by omega⟩) 2 2#32 ⟨t * 256 + r, by omega⟩ * w 0 x n)
    (h55 : ∀ (r : Fin 256) (n : Fin 128), v55 (ix2 r n)
      = ∑ x : Fin 128, centred (fun j => U j ⟨128 + x, by omega⟩) 4 4#32 ⟨t * 256 + r, by omega⟩ * w 1 x n)
    (h77 : ∀ (r : Fin 256) (n : Fin 128), v77 (ix2 r n)
      = ∑ x : Fin 128, centred (fun j => U j ⟨256 + x, by omega⟩) 8 8#32 ⟨t * 256 + r, by omega⟩ * w 2 x n)
    (r : Fin 256) (C : Fin 512) :
    k0_pay7 (F := Ideal) v13 q v35 v55 v77 v wp sc (ix2 r C)
      = pool U w (fun k => sc (ix2 0 k)) ⟨t * 256 + r, by omega⟩ C := by
  have h0 := fun c : Fin 128 => column t (extractStridedSlice S16x128 ![0, 384] v13 slices_S16x512_o0_384_S16x128) v
    (fun j => U j ⟨384 + c, by omega⟩) c ht (fun a => by pointwise; exact hh a ⟨384 + c, by omega⟩) (fun r => hv r c)
  have h1 := fun c : Fin 128 => step1 (concatenate (α := Ideal .f32) S272x128 0
    [⟨S16x128, extractStridedSlice S16x128 ![0, 384] v13 slices_S16x512_o0_384_S16x128⟩, ⟨S256x128, v⟩] concatenates_S16x128_S256x128_S272x128_d0)
    (fun a => padded (fun j => U j ⟨384 + c, by omega⟩) (t * 256 + a)) 0 c (fun a ha => h0 c a)
  have h2 := fun c : Fin 128 => step2 _ _ 1 c (fun a ha => h1 c a ha)
  have h4 := fun c : Fin 128 => step4 _ _ 3 c (fun a ha => h2 c a ha)
  have h8 := fun c : Fin 128 => step8 _ _ 7 c (fun a ha => h4 c a ha)
  unfold k0_pay7
  dsimp only
  generalize addf (F := Ideal) (φ := .f32) _ (dynamicRotate (0 : Fin S272x128.rank) 8#32 _ _ _) = T at h8 ⊢
  have h101 := mixed16 T q v wp U t ht hq hv h8
  generalize (matmul (F := Ideal) dot_S256x128_S128x128_S256x128_1_0_0_1_n_n none _ _ _ : FVec Ideal S256x128 .f32) = v101 at h101 ⊢
  clear h0 h1 h2 h4 h8
  pointwise
  exact pool_sides U w (fun k => sc (ix2 0 k)) ⟨t * 256 + r, by omega⟩ C (fun n => v35 (ix2 r n)) (fun n => v55 (ix2 r n))
    (fun n => v77 (ix2 r n)) (fun n => v101 (ix2 r n)) (h35 r) (h55 r) (h77 r)
    (fun n => (h101 r n).trans (Finset.sum_congr rfl fun x _ => by rw [hw]))

end Cert.Merge

end
-- ==== Proof.Merge.Mem.lean ====
/- The kernel's memory attention of one tile. -/
module

public import proofs.«01_k».proof.Proof.Gen.Kernel4Ideal.Frame
public import proofs.«01_k».proof.Proof.Merge.Math
public import Idealize.ShloMosaic.Lib.Pointwise

@[expose] public section

set_option maxRecDepth 16384

noncomputable section

namespace Cert.Merge

open Cert.Kernel4Ideal Cert.Kernel4Ideal.Gen Idealize.ShloMosaic Idealize.ShloMosaic.TcCoe

/-- The scaled scores of one head. -/
def scores (q : FVec Ideal S256x128 .bf16) (k : FVec Ideal S1x256x128 .bf16) (r : Fin 256) (j : Fin 256) : EReal :=
  (∑ d : Fin 128, q (ix2 r d) * k (ix3 0 j d)) * Ideal.ofBits FTy.f32 0x3DB504F3#32

theorem head0 (q : FVec Ideal S256x128 .bf16) (k v : FVec Ideal S1x256x128 .bf16) (r : Fin 256) (n : Fin 128) :
    k0_pay10 (F := Ideal) (k0_pay8 q k) (k0_pay9 q k) v (ix2 r n) = soft (scores q k r) (fun j => v (ix3 0 j n)) := by
  pointwise [k0_pay10, k0_pay8, k0_pay9]
  rfl

theorem head1 (q : FVec Ideal S256x128 .bf16) (k v : FVec Ideal S1x256x128 .bf16) (r : Fin 256) (n : Fin 128) :
    k0_pay11 (F := Ideal) q k v (ix2 r n) = soft (scores q k r) (fun j => v (ix3 0 j n)) := by
  pointwise [k0_pay11]
  rfl

/-- The scores of the third head, scaled. -/
theorem head2 (q : FVec Ideal S256x128 .bf16) (k : FVec Ideal S1x256x128 .bf16) (r j : Fin 256) :
    mulf (k0_pay12 (F := Ideal) q k) k0_pay13 (ix2 r j) = scores q k r j := by
  pointwise [k0_pay12, k0_pay13]
  rfl

/-- Scores turned into weights and the values summed by them. -/
def weigh (S : FVec Ideal S256x256 .f32) (m : FVec Ideal S1x256x128 .bf16) : FVec Ideal S256x128 .f32 :=
  have v154 : FVec Ideal S256x256 .f32 := broadcastTo S256x256 (shapeCast S256x1
    (multiReduction .maximumf [1] S256 S 0xFF800000#32 reduces_S256x256_S256 (.inl rfl) rfl) shapeCasts_S256_S256x1) broadcasts_S256x1_S256x256
  have v156 : FVec Ideal S256x256 .f32 := exp (subf S v154)
  have v159 : FVec Ideal S256x256 .f32 := broadcastTo S256x256 (shapeCast S256x1
    (multiReduction .add [1] S256 v156 0x00000000#32 reduces_S256x256_S256 (.inl rfl) rfl) shapeCasts_S256_S256x1) broadcasts_S256x1_S256x256
  matmul dot_S256x256_S256x128_S256x128_1_0_0_1_n_n none (truncf .bf16 (divf v156 v159) bitsLt_bf16_f32)
    (shapeCast S256x128 m shapeCasts_S1x256x128_S256x128) (constant S256x128 .f32 0x00000000#32)

theorem weigh_at (S : FVec Ideal S256x256 .f32) (m : FVec Ideal S1x256x128 .bf16) (r : Fin 256) (n : Fin 128) :
    weigh S m (ix2 r n) = soft (fun j => S (ix2 r j)) (fun j => m (ix3 0 j n)) := by
  pointwise [weigh]
  rfl

/-- The four heads side by side. -/
theorem heads_eq (v126 v145 : FVec Ideal S256x128 .f32) (v149 v150 : FVec Ideal S256x256 .f32) (m2 : FVec Ideal S1x256x128 .bf16)
    (q3 : FVec Ideal S256x128 .bf16) (k3 m3 : FVec Ideal S1x256x128 .bf16) :
    k0_pay14 (F := Ideal) v126 v145 v149 v150 m2 q3 k3 m3
      = truncf .bf16 (concatenate (α := Ideal .f32) S256x512 1 [⟨S256x128, v126⟩, ⟨S256x128, v145⟩, ⟨S256x128, weigh (mulf v149 v150) m2⟩,
          ⟨S256x128, k0_pay11 q3 k3 m3⟩] concatenates_S256x128_S256x128_S256x128_S256x128_S256x512_d1) bitsLt_bf16_f32 := rfl

theorem recall_sides (f : Fin 512 → EReal) (C : Fin 512) (a b c d : Fin 128 → EReal)
    (ha : ∀ n : Fin 128, a n = f ⟨n, by omega⟩) (hb : ∀ n : Fin 128, b n = f ⟨128 + n, by omega⟩)
    (hc : ∀ n : Fin 128, c n = f ⟨256 + n, by omega⟩) (hd : ∀ n : Fin 128, d n = f ⟨384 + n, by omega⟩) :
    (if h : (C : ℕ) < 128 then a ⟨C, h⟩ else if h : (C : ℕ) - 128 < 128 then b ⟨C - 128, h⟩
      else if h : (C : ℕ) - 128 - 128 < 128 then c ⟨C - 128 - 128, h⟩ else d ⟨C - 128 - 128 - 128, by omega⟩) = f C := by
  by_cases c1 : (C : ℕ) < 128
  · rw [dif_pos c1, ha]
  rw [dif_neg c1]
  by_cases c2 : (C : ℕ) - 128 < 128
  · rw [dif_pos c2, hb]
    exact congrArg f (Fin.ext (by dsimp only; omega))
  rw [dif_neg c2]
  by_cases c3 : (C : ℕ) - 128 - 128 < 128
  · rw [dif_pos c3, hc]
    exact congrArg f (Fin.ext (by dsimp only; omega))
  rw [dif_neg c3, hd]
  exact congrArg f (Fin.ext (by dsimp only; omega))

/-- One head's columns of the whole. -/
theorem recall_head (q : Fin 512 → EReal) (k v : Fin 256 → Fin 512 → EReal) (o : ℕ) (ho : o + 128 ≤ 512) (h8 : o % 128 = 0)
    (q' : FVec Ideal S256x128 .bf16) (k' v' : FVec Ideal S1x256x128 .bf16) (r : Fin 256) (n : Fin 128)
    (hq : ∀ d : Fin 128, q' (ix2 r d) = q ⟨o + d, by omega⟩) (hk : ∀ (j : Fin 256) (d : Fin 128), k' (ix3 0 j d) = k j ⟨o + d, by omega⟩)
    (hv : ∀ (j : Fin 256) (d : Fin 128), v' (ix3 0 j d) = v j ⟨o + d, by omega⟩) :
    soft (scores q' k' r) (fun j => v' (ix3 0 j n)) = recall q k v ⟨o + n, by omega⟩ := by
  have e : ∀ d : Fin 128, (⟨(o + n) / 128 * 128 + d, by omega⟩ : Fin 512) = ⟨o + d, by omega⟩ := fun d => Fin.ext (by dsimp only; omega)
  unfold recall
  congr 1
  · funext j
    unfold scores
    simp only [hq, hk, e]
  · funext j
    exact hv j n

/-- The tile's memory attention. -/
theorem recalled (q : Fin 256 → Fin 512 → EReal) (k v : Fin 256 → Fin 512 → EReal)
    (q0 q1 q2 q3 : FVec Ideal S256x128 .bf16) (k0 k1 k2 k3 m0 m1 m2 m3 : FVec Ideal S1x256x128 .bf16)
    (hq0 : ∀ (r : Fin 256) (d : Fin 128), q0 (ix2 r d) = q r ⟨0 + d, by omega⟩)
    (hk0 : ∀ (j : Fin 256) (d : Fin 128), k0 (ix3 0 j d) = k j ⟨0 + d, by omega⟩)
    (hm0 : ∀ (j : Fin 256) (d : Fin 128), m0 (ix3 0 j d) = v j ⟨0 + d, by omega⟩)
    (hq1 : ∀ (r : Fin 256) (d : Fin 128), q1 (ix2 r d) = q r ⟨128 + d, by omega⟩)
    (hk1 : ∀ (j : Fin 256) (d : Fin 128), k1 (ix3 0 j d) = k j ⟨128 + d, by omega⟩)
    (hm1 : ∀ (j : Fin 256) (d : Fin 128), m1 (ix3 0 j d) = v j ⟨128 + d, by omega⟩)
    (hq2 : ∀ (r : Fin 256) (d : Fin 128), q2 (ix2 r d) = q r ⟨256 + d, by omega⟩)
    (hk2 : ∀ (j : Fin 256) (d : Fin 128), k2 (ix3 0 j d) = k j ⟨256 + d, by omega⟩)
    (hm2 : ∀ (j : Fin 256) (d : Fin 128), m2 (ix3 0 j d) = v j ⟨256 + d, by omega⟩)
    (hq3 : ∀ (r : Fin 256) (d : Fin 128), q3 (ix2 r d) = q r ⟨384 + d, by omega⟩)
    (hk3 : ∀ (j : Fin 256) (d : Fin 128), k3 (ix3 0 j d) = k j ⟨384 + d, by omega⟩)
    (hm3 : ∀ (j : Fin 256) (d : Fin 128), m3 (ix3 0 j d) = v j ⟨384 + d, by omega⟩)
    (r : Fin 256) (C : Fin 512) :
    k0_pay14 (F := Ideal) (k0_pay10 (k0_pay8 q0 k0) (k0_pay9 q0 k0) m0) (k0_pay11 q1 k1 m1) (k0_pay12 q2 k2) k0_pay13 m2 q3 k3 m3 (ix2 r C)
      = recall (q r) k v C := by
  have e0 := fun n => (head0 q0 k0 m0 r n).trans (recall_head (q r) k v 0 (by omega) (by omega) q0 k0 m0 r n (hq0 r) hk0 hm0)
  have e1 := fun n => (head1 q1 k1 m1 r n).trans (recall_head (q r) k v 128 (by omega) (by omega) q1 k1 m1 r n (hq1 r) hk1 hm1)
  have e2 := fun n => (weigh_at (mulf (k0_pay12 q2 k2) k0_pay13) m2 r n).trans ((congrArg (soft · _) (funext (head2 q2 k2 r))).trans
    (recall_head (q r) k v 256 (by omega) (by omega) q2 k2 m2 r n (hq2 r) hk2 hm2))
  have e3 := fun n => (head1 q3 k3 m3 r n).trans (recall_head (q r) k v 384 (by omega) (by omega) q3 k3 m3 r n (hq3 r) hk3 hm3)
  rw [heads_eq]
  generalize k0_pay10 (F := Ideal) (k0_pay8 q0 k0) (k0_pay9 q0 k0) m0 = y0 at e0 ⊢
  generalize k0_pay11 (F := Ideal) q1 k1 m1 = y1 at e1 ⊢
  generalize weigh (mulf (k0_pay12 q2 k2) k0_pay13) m2 = y2 at e2 ⊢
  generalize k0_pay11 (F := Ideal) q3 k3 m3 = y3 at e3 ⊢
  pointwise
  exact recall_sides (recall (q r) k v) C (fun n => y0 (ix2 r n)) (fun n => y1 (ix2 r n)) (fun n => y2 (ix2 r n)) (fun n => y3 (ix2 r n))
    (fun n => (e0 n).trans (congrArg _ (Fin.ext (Nat.zero_add _)))) e1 e2 e3

end Cert.Merge

end
-- ==== Proof.Merge.Out.lean ====
/- The kernel's gated sum of one tile, its normalisation and its products. -/
module

public import proofs.«01_k».proof.Proof.Gen.Kernel4Ideal.Frame
public import proofs.«01_k».proof.Proof.Merge.Math
public import proofs.«01_k».proof.Proof.Inproj.Norm
public import Idealize.ShloMosaic.Lib.Pointwise

@[expose] public section

set_option maxRecDepth 16384

noncomputable section

namespace Cert.Merge

open Cert.Kernel4Ideal Cert.Kernel4Ideal.Gen Idealize.ShloMosaic Idealize.ShloMosaic.TcCoe

/-- The tile's rows of the residual sum. -/
theorem gated_at (a c : FVec Ideal S256x512 .bf16) (g0 : FVec Ideal S256x1024 .f32) (wa : FVec Ideal S512x1024 .bf16)
    (g1 : FVec Ideal S256x1024 .f32) (b : FVec Ideal S256x1024 .bf16) (wb : FVec Ideal S1024x1024 .bf16)
    (g2 : FVec Ideal S256x1024 .f32) (wc : FVec Ideal S512x1024 .bf16) (x : FVec Ideal S256x1024 .f32) (wo : FVec Ideal S1024x1024 .bf16)
    (r : Fin 256) (n : Fin 1024) :
    k0_pay16 (F := Ideal) a c (k0_pay15 g0) wa g1 b wb g2 wc x wo (ix2 r n)
      = gated (x (ix2 r n)) (fun j => a (ix2 r j)) (fun j => c (ix2 r j)) (fun j => b (ix2 r j))
        (fun k => g0 (ix2 r k)) (fun k => g1 (ix2 r k)) (fun k => g2 (ix2 r k))
        (fun j k => wa (ix2 j k)) (fun j k => wc (ix2 j k)) (fun j k => wb (ix2 j k)) (fun k => wo (ix2 k n)) := by
  pointwise [k0_pay15, k0_pay16]
  simp only [gate_eq]
  rfl

/-- The mean square of a row. -/
theorem mean_at (a c : FVec Ideal S256x512 .bf16) (g0 : FVec Ideal S256x1024 .f32) (wa : FVec Ideal S512x1024 .bf16)
    (g1 : FVec Ideal S256x1024 .f32) (b : FVec Ideal S256x1024 .bf16) (wb : FVec Ideal S1024x1024 .bf16)
    (g2 : FVec Ideal S256x1024 .f32) (wc : FVec Ideal S512x1024 .bf16) (x : FVec Ideal S256x1024 .f32) (wo : FVec Ideal S1024x1024 .bf16)
    (r : Fin 256) :
    k0_pay18 (F := Ideal) a c g0 wa g1 b wb g2 wc x wo (ix2 r 0)
      = Ideal.div (∑ j, k0_pay16 (F := Ideal) a c g0 wa g1 b wb g2 wc x wo (ix2 r j) * k0_pay16 (F := Ideal) a c g0 wa g1 b wb g2 wc x wo (ix2 r j))
        (Ideal.ofBits FTy.f32 0x44800000#32) := by
  unfold k0_pay18
  generalize k0_pay16 (F := Ideal) a c g0 wa g1 b wb g2 wc x wo = y
  pointwise

/-- The tile's normalised rows. -/
theorem normed_at (X : FVec Ideal S256x1024 .f32) (g : FVec Ideal S1x1024 .f32) (Q : FVec Ideal S256x1 .f32) (r : Fin 256) (k : Fin 1024)
    (hQ : Q (ix2 r 0) = Ideal.div (∑ j, X (ix2 r j) * X (ix2 r j)) (Ideal.ofBits FTy.f32 0x44800000#32)) :
    k0_pay20 (F := Ideal) X (k0_pay17 g) Q k0_pay19 (ix2 r k)
      = Cert.Inproj.norm (fun j => X (ix2 r j)) (fun j => g (ix2 0 j)) k := by
  pointwise [k0_pay20, k0_pay17, k0_pay19]
  rw [hQ]
  rfl

theorem chunk0 (X : FVec Ideal S256x1024 .f32) (G : FVec Ideal S1x1024 .f32) (Q E : FVec Ideal S256x1 .f32)
    (w : FVec Ideal S1024x128 .bf16) (r : Fin 256) (n : Fin 128) :
    k0_pay22 (F := Ideal) X G Q E w (ix3 0 r n) = ∑ k, k0_pay20 (F := Ideal) X G Q E (ix2 r k) * w (ix2 k n) := by
  unfold k0_pay22
  generalize k0_pay20 (F := Ideal) X G Q E = y
  pointwise

theorem chunk1 (X : FVec Ideal S256x1024 .f32) (G : FVec Ideal S1x1024 .f32) (Q E : FVec Ideal S256x1 .f32)
    (w : FVec Ideal S1024x128 .bf16) (r : Fin 256) (n : Fin 128) :
    k0_pay23 (F := Ideal) X G Q E w (ix3 0 r n) = ∑ k, k0_pay20 (F := Ideal) X G Q E (ix2 r k) * w (ix2 k n) := by
  unfold k0_pay23
  generalize k0_pay20 (F := Ideal) X G Q E = y
  pointwise

theorem chunk2 (X : FVec Ideal S256x1024 .f32) (G : FVec Ideal S1x1024 .f32) (Q E : FVec Ideal S256x1 .f32)
    (w : FVec Ideal S1024x128 .bf16) (r : Fin 256) (n : Fin 128) :
    k0_pay24 (F := Ideal) X G Q E w (ix3 0 r n) = ∑ k, k0_pay20 (F := Ideal) X G Q E (ix2 r k) * w (ix2 k n) := by
  unfold k0_pay24
  generalize k0_pay20 (F := Ideal) X G Q E = y
  pointwise

theorem chunk3 (X : FVec Ideal S256x1024 .f32) (G : FVec Ideal S1x1024 .f32) (Q E : FVec Ideal S256x1 .f32)
    (w : FVec Ideal S1024x128 .bf16) (r : Fin 256) (n : Fin 128) :
    k0_pay26 (F := Ideal) (k0_pay25 X G Q E w) (ix3 0 r n) = ∑ k, k0_pay20 (F := Ideal) X G Q E (ix2 r k) * w (ix2 k n) := by
  unfold k0_pay25 k0_pay26
  generalize k0_pay20 (F := Ideal) X G Q E = y
  pointwise

theorem chunk4 (N : FVec Ideal S256x1024 .bf16) (w : FVec Ideal S1024x128 .bf16) (r : Fin 256) (n : Fin 128) :
    k0_pay27 (F := Ideal) N w (ix3 0 r n) = ∑ k, N (ix2 r k) * w (ix2 k n) := by
  pointwise [k0_pay27]

theorem chunk5 (N : FVec Ideal S256x1024 .bf16) (w : FVec Ideal S1024x128 .bf16) (r : Fin 256) (n : Fin 128) :
    k0_pay28 (F := Ideal) N w (ix3 0 r n) = ∑ k, N (ix2 r k) * w (ix2 k n) := by
  pointwise [k0_pay28]

theorem chunk6 (N : FVec Ideal S256x1024 .bf16) (w : FVec Ideal S1024x128 .bf16) (r : Fin 256) (n : Fin 128) :
    k0_pay29 (F := Ideal) N w (ix3 0 r n) = ∑ k, N (ix2 r k) * w (ix2 k n) := by
  pointwise [k0_pay29]

theorem chunk7 (N : FVec Ideal S256x1024 .bf16) (w : FVec Ideal S1024x128 .bf16) (r : Fin 256) (n : Fin 128) :
    k0_pay31 (F := Ideal) (k0_pay30 N w) (ix3 0 r n) = ∑ k, N (ix2 r k) * w (ix2 k n) := by
  pointwise [k0_pay31, k0_pay30]

theorem chunk8 (N : FVec Ideal S256x1024 .bf16) (w : FVec Ideal S1024x128 .bf16) (r : Fin 256) (n : Fin 128) :
    k0_pay32 (F := Ideal) N w (ix3 0 r n) = ∑ k, N (ix2 r k) * w (ix2 k n) := by
  pointwise [k0_pay32]

theorem chunk9 (N : FVec Ideal S256x1024 .bf16) (w : FVec Ideal S1024x128 .bf16) (r : Fin 256) (n : Fin 128) :
    k0_pay33 (F := Ideal) N w (ix3 0 r n) = ∑ k, N (ix2 r k) * w (ix2 k n) := by
  pointwise [k0_pay33]

theorem chunk10 (N : FVec Ideal S256x1024 .bf16) (w : FVec Ideal S1024x128 .bf16) (r : Fin 256) (n : Fin 128) :
    k0_pay34 (F := Ideal) N w (ix3 0 r n) = ∑ k, N (ix2 r k) * w (ix2 k n) := by
  pointwise [k0_pay34]

theorem chunk11 (N : FVec Ideal S256x1024 .bf16) (w : FVec Ideal S1024x128 .bf16) (r : Fin 256) (n : Fin 128) :
    k0_pay35 (F := Ideal) N w (ix3 0 r n) = ∑ k, N (ix2 r k) * w (ix2 k n) := by
  pointwise [k0_pay35]

theorem chunk12 (N : FVec Ideal S256x1024 .bf16) (w : FVec Ideal S1024x128 .bf16) (r : Fin 256) (n : Fin 128) :
    k0_pay36 (F := Ideal) N w (ix3 0 r n) = ∑ k, N (ix2 r k) * w (ix2 k n) := by
  pointwise [k0_pay36]

theorem chunk13 (N : FVec Ideal S256x1024 .bf16) (w : FVec Ideal S1024x128 .bf16) (r : Fin 256) (n : Fin 128) :
    k0_pay37 (F := Ideal) N w (ix3 0 r n) = ∑ k, N (ix2 r k) * w (ix2 k n) := by
  pointwise [k0_pay37]

theorem chunk14 (N : FVec Ideal S256x1024 .bf16) (w : FVec Ideal S1024x128 .bf16) (r : Fin 256) (n : Fin 128) :
    k0_pay38 (F := Ideal) N w (ix3 0 r n) = ∑ k, N (ix2 r k) * w (ix2 k n) := by
  pointwise [k0_pay38]

theorem chunk15 (N : FVec Ideal S256x1024 .bf16) (w : FVec Ideal S1024x128 .bf16) (r : Fin 256) (n : Fin 128) :
    k0_pay1 (F := Ideal) (k0_pay39 N w) (ix3 0 r n) = ∑ k, N (ix2 r k) * w (ix2 k n) := by
  pointwise [k0_pay1, k0_pay39]

end Cert.Merge

end
-- ==== Proof.Merge.Loads.lean ====
/- The merge's loads: each reads its columns or its slab of the block. -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Merge

open Cert.Kernel4Ideal Cert.Kernel4Ideal.Gen Idealize.ShloMosaic Idealize.ShloMosaic.TcCoe

theorem ld_halo (w : FVec Ideal S16x512 .f32) (r : Fin 16) (k : Fin 512) :
    View.ld (Val := Elt Ideal) (e' := .f32) w r0_0 (ix2 r k) = w (ix2 r k) := by
  pointwise

theorem ld_up0 (w : FVec Ideal S256x512 .f32) (r : Fin 256) (k : Fin 128) :
    View.ld (Val := Elt Ideal) (e' := .f32) w r0_1 (ix2 r k) = w (ix2 r ⟨k, by omega⟩) := by
  pointwise

theorem ld_up1 (w : FVec Ideal S256x512 .f32) (r : Fin 256) (k : Fin 128) :
    View.ld (Val := Elt Ideal) (e' := .f32) w r0_3 (ix2 r k) = w (ix2 r ⟨128 + k, by omega⟩) := by
  pointwise

theorem ld_up2 (w : FVec Ideal S256x512 .f32) (r : Fin 256) (k : Fin 128) :
    View.ld (Val := Elt Ideal) (e' := .f32) w r0_5 (ix2 r k) = w (ix2 r ⟨256 + k, by omega⟩) := by
  pointwise

theorem ld_up3 (w : FVec Ideal S256x512 .f32) (r : Fin 256) (k : Fin 128) :
    View.ld (Val := Elt Ideal) (e' := .f32) w r0_7 (ix2 r k) = w (ix2 r ⟨384 + k, by omega⟩) := by
  pointwise

theorem ld_qm0 (w : FVec Ideal S256x512 .bf16) (r : Fin 256) (k : Fin 128) :
    View.ld (Val := Elt Ideal) (e' := .bf16) w r0_1 (ix2 r k) = w (ix2 r ⟨k, by omega⟩) := by
  pointwise

theorem ld_qm1 (w : FVec Ideal S256x512 .bf16) (r : Fin 256) (k : Fin 128) :
    View.ld (Val := Elt Ideal) (e' := .bf16) w r0_3 (ix2 r k) = w (ix2 r ⟨128 + k, by omega⟩) := by
  pointwise

theorem ld_qm2 (w : FVec Ideal S256x512 .bf16) (r : Fin 256) (k : Fin 128) :
    View.ld (Val := Elt Ideal) (e' := .bf16) w r0_5 (ix2 r k) = w (ix2 r ⟨256 + k, by omega⟩) := by
  pointwise

theorem ld_qm3 (w : FVec Ideal S256x512 .bf16) (r : Fin 256) (k : Fin 128) :
    View.ld (Val := Elt Ideal) (e' := .bf16) w r0_7 (ix2 r k) = w (ix2 r ⟨384 + k, by omega⟩) := by
  pointwise

theorem ld_wp0 (w : FVec Ideal S4x128x128 .bf16) (r : Fin 128) (k : Fin 128) :
    View.ld (Val := Elt Ideal) (e' := .bf16) w r0_2 (ix3 0 r k) = w (ix3 0 r k) := by
  pointwise

theorem ld_km0 (w : FVec Ideal S1x256x512 .bf16) (r : Fin 256) (k : Fin 128) :
    View.ld (Val := Elt Ideal) (e' := .bf16) w r0_10 (ix3 0 r k) = w (ix3 0 r ⟨k, by omega⟩) := by
  pointwise

theorem ld_wp1 (w : FVec Ideal S4x128x128 .bf16) (r : Fin 128) (k : Fin 128) :
    View.ld (Val := Elt Ideal) (e' := .bf16) w r0_4 (ix3 0 r k) = w (ix3 1 r k) := by
  pointwise

theorem ld_km1 (w : FVec Ideal S1x256x512 .bf16) (r : Fin 256) (k : Fin 128) :
    View.ld (Val := Elt Ideal) (e' := .bf16) w r0_11 (ix3 0 r k) = w (ix3 0 r ⟨128 + k, by omega⟩) := by
  pointwise

theorem ld_wp2 (w : FVec Ideal S4x128x128 .bf16) (r : Fin 128) (k : Fin 128) :
    View.ld (Val := Elt Ideal) (e' := .bf16) w r0_6 (ix3 0 r k) = w (ix3 2 r k) := by
  pointwise

theorem ld_km2 (w : FVec Ideal S1x256x512 .bf16) (r : Fin 256) (k : Fin 128) :
    View.ld (Val := Elt Ideal) (e' := .bf16) w r0_12 (ix3 0 r k) = w (ix3 0 r ⟨256 + k, by omega⟩) := by
  pointwise

theorem ld_wp3 (w : FVec Ideal S4x128x128 .bf16) (r : Fin 128) (k : Fin 128) :
    View.ld (Val := Elt Ideal) (e' := .bf16) w r0_8 (ix3 0 r k) = w (ix3 3 r k) := by
  pointwise

theorem ld_km3 (w : FVec Ideal S1x256x512 .bf16) (r : Fin 256) (k : Fin 128) :
    View.ld (Val := Elt Ideal) (e' := .bf16) w r0_13 (ix3 0 r k) = w (ix3 0 r ⟨384 + k, by omega⟩) := by
  pointwise

theorem ld_sc (w : FVec Ideal S1x512 .f32) (k : Fin 512) :
    View.ld (Val := Elt Ideal) (e' := .f32) w r0_9 (ix2 0 k) = w (ix2 0 k) := by
  pointwise

theorem ld_gl0 (w : FVec Ideal S256x3072 .f32) (r : Fin 256) (k : Fin 1024) :
    View.ld (Val := Elt Ideal) (e' := .f32) w r0_14 (ix2 r k) = w (ix2 r ⟨k, by omega⟩) := by
  pointwise

theorem ld_gl1 (w : FVec Ideal S256x3072 .f32) (r : Fin 256) (k : Fin 1024) :
    View.ld (Val := Elt Ideal) (e' := .f32) w r0_16 (ix2 r k) = w (ix2 r ⟨1024 + k, by omega⟩) := by
  pointwise

theorem ld_gl2 (w : FVec Ideal S256x3072 .f32) (r : Fin 256) (k : Fin 1024) :
    View.ld (Val := Elt Ideal) (e' := .f32) w r0_19 (ix2 r k) = w (ix2 r ⟨2048 + k, by omega⟩) := by
  pointwise

theorem ld_wa (w : FVec Ideal S512x1024 .bf16) (r : Fin 512) (k : Fin 1024) :
    View.ld (Val := Elt Ideal) (e' := .bf16) w r0_15 (ix2 r k) = w (ix2 r k) := by
  pointwise

theorem ld_x (w : FVec Ideal S256x1024 .f32) (r : Fin 256) (k : Fin 1024) :
    View.ld (Val := Elt Ideal) (e' := .f32) w r0_17 (ix2 r k) = w (ix2 r k) := by
  pointwise

theorem ld_ys (w : FVec Ideal S256x1024 .bf16) (r : Fin 256) (k : Fin 1024) :
    View.ld (Val := Elt Ideal) (e' := .bf16) w r0_17 (ix2 r k) = w (ix2 r k) := by
  pointwise

theorem ld_wb (w : FVec Ideal S1024x1024 .bf16) (r : Fin 1024) (k : Fin 1024) :
    View.ld (Val := Elt Ideal) (e' := .bf16) w r0_18 (ix2 r k) = w (ix2 r k) := by
  pointwise

theorem ld_g (w : FVec Ideal S1x1024 .f32) (k : Fin 1024) :
    View.ld (Val := Elt Ideal) (e' := .f32) w r0_20 (ix2 0 k) = w (ix2 0 k) := by
  pointwise

theorem ld_pq0 (w : FVec Ideal S1024x2048 .bf16) (r : Fin 1024) (k : Fin 128) :
    View.ld (Val := Elt Ideal) (e' := .bf16) w r0_21 (ix2 r k) = w (ix2 r ⟨k, by omega⟩) := by
  pointwise

theorem ld_pq1 (w : FVec Ideal S1024x2048 .bf16) (r : Fin 1024) (k : Fin 128) :
    View.ld (Val := Elt Ideal) (e' := .bf16) w r0_23 (ix2 r k) = w (ix2 r ⟨128 + k, by omega⟩) := by
  pointwise

theorem ld_pq2 (w : FVec Ideal S1024x2048 .bf16) (r : Fin 1024) (k : Fin 128) :
    View.ld (Val := Elt Ideal) (e' := .bf16) w r0_25 (ix2 r k) = w (ix2 r ⟨256 + k, by omega⟩) := by
  pointwise

theorem ld_pq3 (w : FVec Ideal S1024x2048 .bf16) (r : Fin 1024) (k : Fin 128) :
    View.ld (Val := Elt Ideal) (e' := .bf16) w r0_27 (ix2 r k) = w (ix2 r ⟨384 + k, by omega⟩) := by
  pointwise

theorem ld_pq4 (w : FVec Ideal S1024x2048 .bf16) (r : Fin 1024) (k : Fin 128) :
    View.ld (Val := Elt Ideal) (e' := .bf16) w r0_29 (ix2 r k) = w (ix2 r ⟨512 + k, by omega⟩) := by
  pointwise

theorem ld_pq5 (w : FVec Ideal S1024x2048 .bf16) (r : Fin 1024) (k : Fin 128) :
    View.ld (Val := Elt Ideal) (e' := .bf16) w r0_31 (ix2 r k) = w (ix2 r ⟨640 + k, by omega⟩) := by
  pointwise

theorem ld_pq6 (w : FVec Ideal S1024x2048 .bf16) (r : Fin 1024) (k : Fin 128) :
    View.ld (Val := Elt Ideal) (e' := .bf16) w r0_33 (ix2 r k) = w (ix2 r ⟨768 + k, by omega⟩) := by
  pointwise

theorem ld_pq7 (w : FVec Ideal S1024x2048 .bf16) (r : Fin 1024) (k : Fin 128) :
    View.ld (Val := Elt Ideal) (e' := .bf16) w r0_35 (ix2 r k) = w (ix2 r ⟨896 + k, by omega⟩) := by
  pointwise

theorem ld_pq8 (w : FVec Ideal S1024x2048 .bf16) (r : Fin 1024) (k : Fin 128) :
    View.ld (Val := Elt Ideal) (e' := .bf16) w r0_37 (ix2 r k) = w (ix2 r ⟨1024 + k, by omega⟩) := by
  pointwise

theorem ld_pq9 (w : FVec Ideal S1024x2048 .bf16) (r : Fin 1024) (k : Fin 128) :
    View.ld (Val := Elt Ideal) (e' := .bf16) w r0_39 (ix2 r k) = w (ix2 r ⟨1152 + k, by omega⟩) := by
  pointwise

theorem ld_pq10 (w : FVec Ideal S1024x2048 .bf16) (r : Fin 1024) (k : Fin 128) :
    View.ld (Val := Elt Ideal) (e' := .bf16) w r0_41 (ix2 r k) = w (ix2 r ⟨1280 + k, by omega⟩) := by
  pointwise

theorem ld_pq11 (w : FVec Ideal S1024x2048 .bf16) (r : Fin 1024) (k : Fin 128) :
    View.ld (Val := Elt Ideal) (e' := .bf16) w r0_43 (ix2 r k) = w (ix2 r ⟨1408 + k, by omega⟩) := by
  pointwise

theorem ld_pq12 (w : FVec Ideal S1024x2048 .bf16) (r : Fin 1024) (k : Fin 128) :
    View.ld (Val := Elt Ideal) (e' := .bf16) w r0_45 (ix2 r k) = w (ix2 r ⟨1536 + k, by omega⟩) := by
  pointwise

theorem ld_pq13 (w : FVec Ideal S1024x2048 .bf16) (r : Fin 1024) (k : Fin 128) :
    View.ld (Val := Elt Ideal) (e' := .bf16) w r0_47 (ix2 r k) = w (ix2 r ⟨1664 + k, by omega⟩) := by
  pointwise

theorem ld_pq14 (w : FVec Ideal S1024x2048 .bf16) (r : Fin 1024) (k : Fin 128) :
    View.ld (Val := Elt Ideal) (e' := .bf16) w r0_49 (ix2 r k) = w (ix2 r ⟨1792 + k, by omega⟩) := by
  pointwise

theorem ld_pq15 (w : FVec Ideal S1024x2048 .bf16) (r : Fin 1024) (k : Fin 128) :
    View.ld (Val := Elt Ideal) (e' := .bf16) w r0_51 (ix2 r k) = w (ix2 r ⟨1920 + k, by omega⟩) := by
  pointwise

end Cert.Merge

end
-- ==== Proof.Merge.Tile.lean ====
/- One tile of the merge: its rows, from the rows its blocks hold, are the reference's. -/
module

public import proofs.«01_k».proof.Proof.Gen.Kernel4Ideal.Frame
public import proofs.«01_k».proof.Proof.Merge.RefOut
public import proofs.«01_k».proof.Proof.Merge.Pool
public import proofs.«01_k».proof.Proof.Merge.Mem
public import proofs.«01_k».proof.Proof.Merge.Out
public import proofs.«01_k».proof.Proof.Merge.Loads

@[expose] public section

set_option maxRecDepth 16384

noncomputable section

namespace Cert.Merge

open Cert.Kernel4Ideal Cert.Kernel4Ideal.Gen Idealize.ShloMosaic Idealize.ShloMosaic.TcCoe

theorem point_lt (t : Fin cfg0.N) : t.val < 16 := t.isLt

/-- Row `r` of tile `t`. -/
abbrev rowOf (t : Fin cfg0.N) (r : Fin 256) : Fin 4096 := ⟨t.val * 256 + r, by have := point_lt t; omega⟩

/-- What the blocks of tile `t` hold of the arguments. -/
structure Reads (t : Fin cfg0.N) (x0 : FVec Ideal S256x1024 .f32) (x1 : FVec Ideal S256x512 .f32) (x2 : FVec Ideal S16x512 .f32) (x3 : FVec Ideal S256x1024 .bf16) (x4 : FVec Ideal S256x512 .bf16) (x5 : FVec Ideal S256x3072 .f32) (x6 : FVec Ideal S1x256x512 .bf16) (x7 : FVec Ideal S1x256x512 .bf16) (x8 : FVec Ideal S4x128x128 .bf16) (x9 : FVec Ideal S1x512 .f32) (x10 : FVec Ideal S512x1024 .bf16) (x11 : FVec Ideal S1024x1024 .bf16) (x12 : FVec Ideal S512x1024 .bf16) (x13 : FVec Ideal S1024x1024 .bf16) (x14 : FVec Ideal S1x1024 .f32) (x15 : FVec Ideal S1024x2048 .bf16)
    (a0 : FVec Ideal Cert.Reference4Ideal.S4096x1024 .f32) (a1 : FVec Ideal Cert.Reference4Ideal.S4096x512 .f32) (a2 : FVec Ideal Cert.Reference4Ideal.S4096x1024 .bf16) (a3 : FVec Ideal Cert.Reference4Ideal.S4096x512 .bf16) (a4 : FVec Ideal Cert.Reference4Ideal.S4096x3072 .f32) (a5 : FVec Ideal Cert.Reference4Ideal.S1x256x512 .bf16) (a6 : FVec Ideal Cert.Reference4Ideal.S1x256x512 .bf16) (a7 : FVec Ideal Cert.Reference4Ideal.S4x128x128 .f32) (a8 : FVec Ideal Cert.Reference4Ideal.S512 .f32) (a9 : FVec Ideal Cert.Reference4Ideal.S512x1024 .f32) (a10 : FVec Ideal Cert.Reference4Ideal.S1024x1024 .f32) (a11 : FVec Ideal Cert.Reference4Ideal.S512x1024 .f32) (a12 : FVec Ideal Cert.Reference4Ideal.S1024x1024 .f32) (a13 : FVec Ideal Cert.Reference4Ideal.S1024 .f32) (a14 : FVec Ideal Cert.Reference4Ideal.S1024x2048 .f32) : Prop where
  x : ∀ r k, x0 (ix2 r k) = a0 (ix2 (rowOf t r) k)
  up : ∀ r k, x1 (ix2 r k) = a1 (ix2 (rowOf t r) k)
  halo : ∀ (a : Fin 16) (k : Fin 512) (_ : t.val ≠ 0), x2 (ix2 a k)
    = a1 (ix2 ⟨t.val * 256 + a - 16, by have := point_lt t; omega⟩ k)
  ys : ∀ r k, x3 (ix2 r k) = a2 (ix2 (rowOf t r) k)
  qm : ∀ r k, x4 (ix2 r k) = a3 (ix2 (rowOf t r) k)
  gl : ∀ r k, x5 (ix2 r k) = a4 (ix2 (rowOf t r) k)
  km : ∀ r k, x6 (ix3 0 r k) = a5 (ix3 0 r k)
  vm : ∀ r k, x7 (ix3 0 r k) = a6 (ix3 0 r k)
  wp : ∀ g r k, x8 (ix3 g r k) = a7 (ix3 g r k)
  sc : ∀ k, x9 (ix2 0 k) = a8 (ix1 k)
  wa : ∀ r k, x10 (ix2 r k) = a9 (ix2 r k)
  wb : ∀ r k, x11 (ix2 r k) = a10 (ix2 r k)
  wc : ∀ r k, x12 (ix2 r k) = a11 (ix2 r k)
  wo : ∀ r k, x13 (ix2 r k) = a12 (ix2 r k)
  g : ∀ k, x14 (ix2 0 k) = a13 (ix1 k)
  wq : ∀ r k, x15 (ix2 r k) = a14 (ix2 r k)

section
variable {t : Fin cfg0.N} {x0 : FVec Ideal S256x1024 .f32} {x1 : FVec Ideal S256x512 .f32} {x2 : FVec Ideal S16x512 .f32} {x3 : FVec Ideal S256x1024 .bf16} {x4 : FVec Ideal S256x512 .bf16} {x5 : FVec Ideal S256x3072 .f32} {x6 : FVec Ideal S1x256x512 .bf16} {x7 : FVec Ideal S1x256x512 .bf16} {x8 : FVec Ideal S4x128x128 .bf16} {x9 : FVec Ideal S1x512 .f32} {x10 : FVec Ideal S512x1024 .bf16} {x11 : FVec Ideal S1024x1024 .bf16} {x12 : FVec Ideal S512x1024 .bf16} {x13 : FVec Ideal S1024x1024 .bf16} {x14 : FVec Ideal S1x1024 .f32} {x15 : FVec Ideal S1024x2048 .bf16}
  {a0 : FVec Ideal Cert.Reference4Ideal.S4096x1024 .f32} {a1 : FVec Ideal Cert.Reference4Ideal.S4096x512 .f32} {a2 : FVec Ideal Cert.Reference4Ideal.S4096x1024 .bf16} {a3 : FVec Ideal Cert.Reference4Ideal.S4096x512 .bf16} {a4 : FVec Ideal Cert.Reference4Ideal.S4096x3072 .f32} {a5 : FVec Ideal Cert.Reference4Ideal.S1x256x512 .bf16} {a6 : FVec Ideal Cert.Reference4Ideal.S1x256x512 .bf16} {a7 : FVec Ideal Cert.Reference4Ideal.S4x128x128 .f32} {a8 : FVec Ideal Cert.Reference4Ideal.S512 .f32} {a9 : FVec Ideal Cert.Reference4Ideal.S512x1024 .f32} {a10 : FVec Ideal Cert.Reference4Ideal.S1024x1024 .f32} {a11 : FVec Ideal Cert.Reference4Ideal.S512x1024 .f32} {a12 : FVec Ideal Cert.Reference4Ideal.S1024x1024 .f32} {a13 : FVec Ideal Cert.Reference4Ideal.S1024 .f32} {a14 : FVec Ideal Cert.Reference4Ideal.S1024x2048 .f32}
  (H : Reads t x0 x1 x2 x3 x4 x5 x6 x7 x8 x9 x10 x11 x12 x13 x14 x15 a0 a1 a2 a3 a4 a5 a6 a7 a8 a9 a10 a11 a12 a13 a14)
include H

/-- The rows before the tile. -/
theorem before_at (a : Fin 16) (c : Fin 512) : k0_pay2 (F := Ideal) (grid0.coords t) (View.ld (Val := Elt Ideal) (e' := .f32) x2 r0_0) (ix2 a c)
    = padded (fun j => a1 (ix2 j c)) (t.val * 256 + a) := by
  have ht := point_lt t
  have ha := a.isLt
  refine (halo_at t _ a c).trans ?_
  unfold padded
  split
  · rw [dif_neg (by omega)]
  · rename_i h
    rw [dif_pos (by omega), ld_halo]
    exact H.halo a c h

/-- The pooling branch. -/
theorem pool_rows (r : Fin 256) (C : Fin 512) : k0_pay42 (F := Ideal) (grid0.coords t) x0 x1 x2 x3 x4 x5 x6 x7 x8 x9 x10 x11 x12 x13 x14 x15 (ix2 r C)
    = pool (fun j k => a1 (ix2 j k)) (fun g x n => a7 (ix3 g x n)) (fun k => a8 (ix1 k)) (rowOf t r) C := by
  have ht := point_lt t
  have hs : (fun k => a8 (ix1 k)) = fun k => View.ld (Val := Elt Ideal) (e' := .f32) x9 r0_9 (ix2 0 k) :=
    funext fun k => ((ld_sc x9 k).trans (H.sc k)).symm
  rw [hs]
  unfold k0_pay42 k0_pay40 k0_pay41
  refine pooled _ _ _ _ _ _ _ _ (fun j k => a1 (ix2 j k)) (fun g x n => a7 (ix3 g x n)) t.val ht (row_word t) (before_at H)
    (fun r c => (ld_up3 x1 r c).trans (H.up r _)) (fun x n => (ld_wp3 x8 x n).trans (H.wp 3 x n)) (fun r n => ?_) (fun r n => ?_) (fun r n => ?_) r C
  · refine (mixed2 _ _ _ _ (fun j k => a1 (ix2 j k)) t.val ht (row_word t) (before_at H) (fun r c => (ld_up0 x1 r c).trans (H.up r _)) r n).trans ?_
    exact Finset.sum_congr rfl fun x _ => congrArg _ ((ld_wp0 x8 x n).trans (H.wp 0 x n))
  · refine (mixed4 _ _ _ _ (fun j k => a1 (ix2 j k)) t.val ht (row_word t) (before_at H) (fun r c => (ld_up1 x1 r c).trans (H.up r _)) r n).trans ?_
    exact Finset.sum_congr rfl fun x _ => congrArg _ ((ld_wp1 x8 x n).trans (H.wp 1 x n))
  · refine (mixed8 _ _ _ _ (fun j k => a1 (ix2 j k)) t.val ht (row_word t) (before_at H) (fun r c => (ld_up2 x1 r c).trans (H.up r _)) r n).trans ?_
    exact Finset.sum_congr rfl fun x _ => congrArg _ ((ld_wp2 x8 x n).trans (H.wp 2 x n))

/-- The memory branch. -/
theorem memory_rows (r : Fin 256) (C : Fin 512) : k0_pay43 (F := Ideal) (grid0.coords t) x0 x1 x2 x3 x4 x5 x6 x7 x8 x9 x10 x11 x12 x13 x14 x15 (ix2 r C)
    = recall (fun c => a3 (ix2 (rowOf t r) c)) (fun j c => a5 (ix3 0 j c)) (fun j c => a6 (ix3 0 j c)) C := by
  unfold k0_pay43
  exact recalled (fun r c => a3 (ix2 (rowOf t r) c)) (fun j c => a5 (ix3 0 j c)) (fun j c => a6 (ix3 0 j c)) _ _ _ _ _ _ _ _ _ _ _ _
    (fun r d => (ld_qm0 x4 r d).trans ((H.qm r _).trans (congrArg (fun k => a3 (ix2 (rowOf t r) k)) (Fin.ext (by simp))))) (fun j d => (ld_km0 x6 j d).trans ((H.km j _).trans (congrArg (fun k => a5 (ix3 0 j k)) (Fin.ext (by simp))))) (fun j d => (ld_km0 x7 j d).trans ((H.vm j _).trans (congrArg (fun k => a6 (ix3 0 j k)) (Fin.ext (by simp)))))
     (fun r d => (ld_qm1 x4 r d).trans ((H.qm r _).trans (congrArg (fun k => a3 (ix2 (rowOf t r) k)) (Fin.ext (by simp))))) (fun j d => (ld_km1 x6 j d).trans ((H.km j _).trans (congrArg (fun k => a5 (ix3 0 j k)) (Fin.ext (by simp))))) (fun j d => (ld_km1 x7 j d).trans ((H.vm j _).trans (congrArg (fun k => a6 (ix3 0 j k)) (Fin.ext (by simp)))))
     (fun r d => (ld_qm2 x4 r d).trans ((H.qm r _).trans (congrArg (fun k => a3 (ix2 (rowOf t r) k)) (Fin.ext (by simp))))) (fun j d => (ld_km2 x6 j d).trans ((H.km j _).trans (congrArg (fun k => a5 (ix3 0 j k)) (Fin.ext (by simp))))) (fun j d => (ld_km2 x7 j d).trans ((H.vm j _).trans (congrArg (fun k => a6 (ix3 0 j k)) (Fin.ext (by simp)))))
     (fun r d => (ld_qm3 x4 r d).trans ((H.qm r _).trans (congrArg (fun k => a3 (ix2 (rowOf t r) k)) (Fin.ext (by simp))))) (fun j d => (ld_km3 x6 j d).trans ((H.km j _).trans (congrArg (fun k => a5 (ix3 0 j k)) (Fin.ext (by simp))))) (fun j d => (ld_km3 x7 j d).trans ((H.vm j _).trans (congrArg (fun k => a6 (ix3 0 j k)) (Fin.ext (by simp)))))
    r C

/-- The residual sum. -/
theorem sum_rows (r : Fin 256) (C : Fin 1024) : k0_pay45 (F := Ideal) (grid0.coords t) x0 x1 x2 x3 x4 x5 x6 x7 x8 x9 x10 x11 x12 x13 x14 x15 (ix2 r C)
    = Ref.X a0 a1 a2 a3 a4 a5 a6 a7 a8 a9 a10 a11 a12 (rowOf t r) C := by
  have hp := fun j => pool_rows H r j
  have hm := fun j => memory_rows H r j
  unfold k0_pay45 k0_pay44
  generalize k0_pay42 (F := Ideal) (grid0.coords t) x0 x1 x2 x3 x4 x5 x6 x7 x8 x9 x10 x11 x12 x13 x14 x15 = p at hp ⊢
  generalize k0_pay43 (F := Ideal) (grid0.coords t) x0 x1 x2 x3 x4 x5 x6 x7 x8 x9 x10 x11 x12 x13 x14 x15 = q at hm ⊢
  refine (gated_at ..).trans ?_
  unfold Ref.X
  congr 1
  · exact (ld_x x0 r C).trans (H.x r C)
  · exact funext hp
  · exact funext hm
  · exact funext fun k => (ld_ys x3 r k).trans (H.ys r k)
  · exact funext fun k => (ld_gl0 x5 r k).trans (H.gl r _)
  · exact funext fun k => (ld_gl1 x5 r k).trans (H.gl r _)
  · exact funext fun k => (ld_gl2 x5 r k).trans (H.gl r _)
  · exact funext fun j => funext fun k => (ld_wa x10 j k).trans (H.wa j k)
  · exact funext fun j => funext fun k => (ld_wa x12 j k).trans (H.wc j k)
  · exact funext fun j => funext fun k => (ld_wb x11 j k).trans (H.wb j k)
  · exact funext fun k => (ld_wb x13 k C).trans (H.wo k C)

/-- Its normalised rows. -/
theorem norm_rows (r : Fin 256) (k : Fin 1024) : k0_pay49 (F := Ideal) (grid0.coords t) x0 x1 x2 x3 x4 x5 x6 x7 x8 x9 x10 x11 x12 x13 x14 x15 (ix2 r k)
    = Cert.Inproj.norm (Ref.X a0 a1 a2 a3 a4 a5 a6 a7 a8 a9 a10 a11 a12 (rowOf t r)) (fun j => a13 (ix1 j)) k := by
  have h := fun j => sum_rows H r j
  have hg : (fun j => View.ld (Val := Elt Ideal) (e' := .f32) x14 r0_20 (ix2 0 j)) = fun j => a13 (ix1 j) :=
    funext fun j => (ld_g x14 j).trans (H.g j)
  unfold k0_pay49 k0_pay48 k0_pay46
  refine (normed_at _ _ _ r k ?_).trans ?_
  · unfold k0_pay47 k0_pay45
    exact mean_at ..
  · rw [hg]
    exact congrArg (Cert.Inproj.norm · _ k) (funext h)

end

end Cert.Merge

end
-- ==== Proof.Merge.Blocks.lean ====
/- The blocks of a tile of the merge hold the rows they should. -/
module

public import proofs.«01_k».proof.Proof.Gen.Kernel4Ideal.Value
public import proofs.«01_k».proof.Proof.Merge.Tile
public import Idealize.ShloMosaic.Lib.Pipeline.ValueKit

@[expose] public section

set_option maxRecDepth 16384

noncomputable section

namespace Cert.Merge

open Cert.Kernel4Ideal Cert.Kernel4Ideal.Gen Idealize.ShloMosaic Idealize.ShloMosaic.TcCoe

/-- The blocks of a grid point: its own 256 rows, the 16 rows before them, or an operand whole. -/
theorem idx : ∀ t : Fin cfg0.N, win0_0.index t = ![t.val, 0] ∧ win0_1.index t = ![t.val, 0] ∧ win0_2.index t = ![16 * t.val - 1, 0] ∧ win0_3.index t = ![t.val, 0] ∧ win0_4.index t = ![t.val, 0] ∧ win0_5.index t = ![t.val, 0] ∧ win0_6.index t = ![0, 0, 0] ∧ win0_7.index t = ![0, 0, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0] ∧ win0_17.index t = ![t.val, 0] ∧ win0_18.index t = ![0, t.val, 0] :=
  (by decide +kernel : ∀ t : Fin grid0.N, _)

variable (m : (ℓ : Loc nD τ sig) → Buf (Elt Ideal) ℓ)

/-- The arguments of a device. -/
abbrev A0 (c : Dev nD) : FVec Ideal Cert.Reference4Ideal.S4096x1024 .f32 := m ((c : Thread nD τ).loc main_arg0)
abbrev A1 (c : Dev nD) : FVec Ideal Cert.Reference4Ideal.S4096x512 .f32 := m ((c : Thread nD τ).loc main_arg1)
abbrev A2 (c : Dev nD) : FVec Ideal Cert.Reference4Ideal.S4096x1024 .bf16 := m ((c : Thread nD τ).loc main_arg2)
abbrev A3 (c : Dev nD) : FVec Ideal Cert.Reference4Ideal.S4096x512 .bf16 := m ((c : Thread nD τ).loc main_arg3)
abbrev A4 (c : Dev nD) : FVec Ideal Cert.Reference4Ideal.S4096x3072 .f32 := m ((c : Thread nD τ).loc main_arg4)
abbrev A5 (c : Dev nD) : FVec Ideal Cert.Reference4Ideal.S1x256x512 .bf16 := m ((c : Thread nD τ).loc main_arg5)
abbrev A6 (c : Dev nD) : FVec Ideal Cert.Reference4Ideal.S1x256x512 .bf16 := m ((c : Thread nD τ).loc main_arg6)
abbrev A7 (c : Dev nD) : FVec Ideal Cert.Reference4Ideal.S4x128x128 .f32 := m ((c : Thread nD τ).loc main_arg7)
abbrev A8 (c : Dev nD) : FVec Ideal Cert.Reference4Ideal.S512 .f32 := m ((c : Thread nD τ).loc main_arg8)
abbrev A9 (c : Dev nD) : FVec Ideal Cert.Reference4Ideal.S512x1024 .f32 := m ((c : Thread nD τ).loc main_arg9)
abbrev A10 (c : Dev nD) : FVec Ideal Cert.Reference4Ideal.S1024x1024 .f32 := m ((c : Thread nD τ).loc main_arg10)
abbrev A11 (c : Dev nD) : FVec Ideal Cert.Reference4Ideal.S512x1024 .f32 := m ((c : Thread nD τ).loc main_arg11)
abbrev A12 (c : Dev nD) : FVec Ideal Cert.Reference4Ideal.S1024x1024 .f32 := m ((c : Thread nD τ).loc main_arg12)
abbrev A13 (c : Dev nD) : FVec Ideal Cert.Reference4Ideal.S1024 .f32 := m ((c : Thread nD τ).loc main_arg13)
abbrev A14 (c : Dev nD) : FVec Ideal Cert.Reference4Ideal.S1024x2048 .f32 := m ((c : Thread nD τ).loc main_arg14)

theorem entry_v0 (c : Dev nD) (g : Fin 4) (r k : Fin 128) : V m c main_v0 (ix3 g r k) = A7 m c (ix3 g r k) := by
  entry_read
  pointwise

theorem entry_v1 (c : Dev nD) (k : Fin 512) : V m c main_v1 (ix2 0 k) = A8 m c (ix1 k) := by
  entry_read
  pointwise

theorem entry_v2 (c : Dev nD) (r : Fin 512) (k : Fin 1024) : V m c main_v2 (ix2 r k) = A9 m c (ix2 r k) := by
  entry_read
  pointwise

theorem entry_v3 (c : Dev nD) (r k : Fin 1024) : V m c main_v3 (ix2 r k) = A10 m c (ix2 r k) := by
  entry_read
  pointwise

theorem entry_v4 (c : Dev nD) (r : Fin 512) (k : Fin 1024) : V m c main_v4 (ix2 r k) = A11 m c (ix2 r k) := by
  entry_read
  pointwise

theorem entry_v5 (c : Dev nD) (r k : Fin 1024) : V m c main_v5 (ix2 r k) = A12 m c (ix2 r k) := by
  entry_read
  pointwise

theorem entry_v6 (c : Dev nD) (k : Fin 1024) : V m c main_v6 (ix2 0 k) = A13 m c (ix1 k) := by
  entry_read
  pointwise

theorem entry_v7 (c : Dev nD) (r : Fin 1024) (k : Fin 2048) : V m c main_v7 (ix2 r k) = A14 m c (ix2 r k) := by
  entry_read
  pointwise

/-- The blocks of tile `t`. -/
theorem reads (c : Dev nD) (t : Fin cfg0.N) : Reads t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (A0 m c) (A1 m c) (A2 m c) (A3 m c) (A4 m c) (A5 m c) (A6 m c) (A7 m c) (A8 m c) (A9 m c) (A10 m c) (A11 m c) (A12 m c) (A13 m c) (A14 m c) where
  x := fun r k => by blk_point [iblk, V, idx t]
  up := fun r k => by blk_point [iblk, V, idx t]
  halo := fun a k h => by
    have ht := point_lt t
    blk_point [iblk, V, idx t] <;> omega
  ys := fun r k => by blk_point [iblk, V, idx t]
  qm := fun r k => by blk_point [iblk, V, idx t]
  gl := fun r k => by blk_point [iblk, V, idx t]
  km := fun r k => by blk_point [iblk, V, idx t]
  vm := fun r k => by blk_point [iblk, V, idx t]
  wp := fun g r k => by
    refine Eq.trans ?_ (entry_v0 m c g r k)
    blk_point [iblk, idx t]
  sc := fun k => by
    refine Eq.trans ?_ (entry_v1 m c k)
    blk_point [iblk, idx t]
  wa := fun r k => by
    refine Eq.trans ?_ (entry_v2 m c r k)
    blk_point [iblk, idx t]
  wb := fun r k => by
    refine Eq.trans ?_ (entry_v3 m c r k)
    blk_point [iblk, idx t]
  wc := fun r k => by
    refine Eq.trans ?_ (entry_v4 m c r k)
    blk_point [iblk, idx t]
  wo := fun r k => by
    refine Eq.trans ?_ (entry_v5 m c r k)
    blk_point [iblk, idx t]
  g := fun k => by
    refine Eq.trans ?_ (entry_v6 m c k)
    blk_point [iblk, idx t]
  wq := fun r k => by
    refine Eq.trans ?_ (entry_v7 m c r k)
    blk_point [iblk, idx t]

end Cert.Merge

end
-- ==== Proof.Merge.Final.lean ====
/- The merge's three output arrays: each is the reference's. -/
module

public import proofs.«01_k».proof.Proof.Merge.Blocks

@[expose] public section

set_option maxRecDepth 16384

noncomputable section

namespace Cert.Merge

open Cert.Kernel4Ideal Cert.Kernel4Ideal.Gen Idealize.ShloMosaic Idealize.ShloMosaic.TcCoe

variable (m : (ℓ : Loc nD τ sig) → Buf (Elt Ideal) ℓ)

/-- The residual sum that a tile stores. -/
theorem tile16 (c : Dev nD) (hx : ∀ i, A1 m c i ≠ ⊤ ∧ A1 m c i ≠ ⊥) (t : Fin cfg0.N) (y : S256x1024.Idx) (j : Cert.Reference4Ideal.S4096x1024.Idx)
    (h0 : (j 0 : ℕ) = t.val * 256 + y 0) (h1 : (j 1 : ℕ) = y 1) :
    k0_pay45 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = Cert.Reference4Ideal.Read.val_main_v114 (F := Ideal) (A0 m c) (A1 m c) (A2 m c) (A3 m c) (A4 m c) (A5 m c) (A6 m c) (A7 m c) (A8 m c) (A9 m c) (A10 m c) (A11 m c) (A12 m c) j := by
  idx_vars y
  idx_vars j
  obtain rfl : j1 = y1 := Fin.ext h1
  obtain rfl : j0 = rowOf t y0 := Fin.ext h0
  exact (sum_rows (reads m c t) y0 j1).trans (Ref.x1_at _ _ _ _ _ _ _ _ _ _ _ _ _ hx _ _).symm

/-- The normalised rows that a tile stores. -/
theorem tile17 (c : Dev nD) (hx : ∀ i, A1 m c i ≠ ⊤ ∧ A1 m c i ≠ ⊥) (t : Fin cfg0.N) (y : S256x1024.Idx) (j : Cert.Reference4Ideal.S4096x1024.Idx)
    (h0 : (j 0 : ℕ) = t.val * 256 + y 0) (h1 : (j 1 : ℕ) = y 1) :
    k0_pay49 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = Cert.Reference4Ideal.Read.val_main_v127 (F := Ideal) (A0 m c) (A1 m c) (A2 m c) (A3 m c) (A4 m c) (A5 m c) (A6 m c) (A7 m c) (A8 m c) (A9 m c) (A10 m c) (A11 m c) (A12 m c) (A13 m c) j := by
  idx_vars y
  idx_vars j
  obtain rfl : j1 = y1 := Fin.ext h1
  obtain rfl : j0 = rowOf t y0 := Fin.ext h0
  exact (norm_rows (reads m c t) y0 j1).trans (Ref.h2_at _ _ _ _ _ _ _ _ _ _ _ _ _ _ hx _ _).symm

/-- Slab `s` of the queries that a tile stores: its normalised rows times columns `128 s` on of the weights. -/
theorem chunk_at (c : Dev nD) (hx : ∀ i, A1 m c i ≠ ⊤ ∧ A1 m c i ≠ ⊥) (t : Fin cfg0.N) (s : Fin 16)
    (P : FVec Ideal S1x256x128 .f32) (w : FVec Ideal S1024x128 .bf16)
    (hP : ∀ r n, P (ix3 0 r n) = ∑ k, k0_pay49 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) * w (ix2 k n))
    (hw : ∀ (k : Fin 1024) (n : Fin 128), w (ix2 k n) = iblk m c 15 t (ix2 k ⟨(s : ℕ) * 128 + n, by omega⟩))
    (x : S1x256x128.Idx) (j : Cert.Reference4Ideal.S16x4096x128.Idx)
    (h0 : (j 0 : ℕ) = s) (h1 : (j 1 : ℕ) = t.val * 256 + x 1) (h2 : (j 2 : ℕ) = x 2) :
    P x = Cert.Reference4Ideal.Read.val_main_v131 (F := Ideal) (A0 m c) (A1 m c) (A2 m c) (A3 m c) (A4 m c) (A5 m c) (A6 m c) (A7 m c) (A8 m c) (A9 m c) (A10 m c) (A11 m c) (A12 m c) (A13 m c) (A14 m c) j := by
  idx_vars x
  idx_vars j
  obtain rfl : x0 = 0 := Subsingleton.elim (α := Fin 1) _ _
  obtain rfl : j2 = x2 := Fin.ext h2
  obtain rfl : j0 = s := Fin.ext h0
  obtain rfl : j1 = rowOf t x1 := Fin.ext h1
  refine (hP x1 j2).trans (Eq.trans ?_ (Ref.qp_at _ _ _ _ _ _ _ _ _ _ _ _ _ _ _ hx _ _ _).symm)
  exact Finset.sum_congr rfl fun k _ => congrArg₂ _ (norm_rows (reads m c t) x1 k) ((hw k j2).trans ((reads m c t).wq k _))

/-- What the first store leaves. -/
theorem out16 (i : grid0.Coords) (x0 : FVec Ideal S256x1024 .f32) (x1 : FVec Ideal S256x512 .f32) (x2 : FVec Ideal S16x512 .f32) (x3 : FVec Ideal S256x1024 .bf16) (x4 : FVec Ideal S256x512 .bf16) (x5 : FVec Ideal S256x3072 .f32) (x6 : FVec Ideal S1x256x512 .bf16) (x7 : FVec Ideal S1x256x512 .bf16) (x8 : FVec Ideal S4x128x128 .bf16) (x9 : FVec Ideal S1x512 .f32) (x10 : FVec Ideal S512x1024 .bf16) (x11 : FVec Ideal S1024x1024 .bf16) (x12 : FVec Ideal S512x1024 .bf16) (x13 : FVec Ideal S1024x1024 .bf16) (x14 : FVec Ideal S1x1024 .f32) (x15 : FVec Ideal S1024x2048 .bf16) :
    out0_16 (F := Ideal) i x0 x1 x2 x3 x4 x5 x6 x7 x8 x9 x10 x11 x12 x13 x14 x15 = k0_pay45 (F := Ideal) i x0 x1 x2 x3 x4 x5 x6 x7 x8 x9 x10 x11 x12 x13 x14 x15 := by
  unfold out0_16 k0_pay45
  frame_out

/-- The second store widens the normalised rows. -/
theorem wide (X : FVec Ideal S256x1024 .f32) (G : FVec Ideal S1x1024 .f32) (Q E : FVec Ideal S256x1 .f32) :
    k0_pay21 (F := Ideal) X G Q E = k0_pay20 X G Q E := rfl

/-- The first output whole. -/
theorem final16 (c : Dev nD) (hx : ∀ i, A1 m c i ≠ ⊤ ∧ A1 m c i ≠ ⊥) : (dats m 0 c).arrAt 16 (cfgs 0).N
    = Cert.Reference4Ideal.Read.val_main_v114 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 16 _ (by decide +kernel) fun t _ y => ?_
  blk_simp
  rw [after0_16]
  rw [out16]
  refine (tile16 m c hx t y _ ?_ ?_) <;> blk_simp [idx t] <;> omega

/-- The second output whole. -/
theorem final17 (c : Dev nD) (hx : ∀ i, A1 m c i ≠ ⊤ ∧ A1 m c i ≠ ⊥) : (dats m 0 c).arrAt 17 (cfgs 0).N
    = Cert.Reference4Ideal.Read.val_main_v127 (F := Ideal) (A0 m c) (A1 m c) (A2 m c) (A3 m c) (A4 m c) (A5 m c) (A6 m c) (A7 m c) (A8 m c) (A9 m c) (A10 m c) (A11 m c) (A12 m c) (A13 m c) := by
  refine (dats m 0 c).arrAt_eq_of_covers 17 _ (by decide +kernel) fun t _ y => ?_
  blk_simp
  rw [after0_17]
  unfold out0_17
  frame_out
  refine (congrFun (wide ..) y).trans (tile17 m c hx t y _ ?_ ?_) <;> blk_simp [idx t] <;> omega

/-- The third output whole. -/
theorem final18 (c : Dev nD) (hx : ∀ i, A1 m c i ≠ ⊤ ∧ A1 m c i ≠ ⊥) : (dats m 0 c).arrAt 18 (cfgs 0).N
    = Cert.Reference4Ideal.Read.val_main_v131 (F := Ideal) (A0 m c) (A1 m c) (A2 m c) (A3 m c) (A4 m c) (A5 m c) (A6 m c) (A7 m c) (A8 m c) (A9 m c) (A10 m c) (A11 m c) (A12 m c) (A13 m c) (A14 m c) := by
  refine (dats m 0 c).arrAt_eq_of_covers 18 _ (by decide +kernel) fun t _ y => ?_
  blk_simp
  rw [after0_18]
  unfold out0_18
  canon_tiles x h
  case piece0 =>
    refine (chunk_at m c hx t 15 _ _ (fun r n => chunk15 ..) (fun k n => ld_pq15 _ k n) x _ ?_ ?_ ?_) <;> blk_simp [idx t] <;> try omega
  case piece1 =>
    refine (chunk_at m c hx t 14 _ _ (fun r n => chunk14 ..) (fun k n => ld_pq14 _ k n) x _ ?_ ?_ ?_) <;> blk_simp [idx t] <;> try omega
  case piece2 =>
    refine (chunk_at m c hx t 13 _ _ (fun r n => chunk13 ..) (fun k n => ld_pq13 _ k n) x _ ?_ ?_ ?_) <;> blk_simp [idx t] <;> try omega
  case piece3 =>
    refine (chunk_at m c hx t 12 _ _ (fun r n => chunk12 ..) (fun k n => ld_pq12 _ k n) x _ ?_ ?_ ?_) <;> blk_simp [idx t] <;> try omega
  case piece4 =>
    refine (chunk_at m c hx t 11 _ _ (fun r n => chunk11 ..) (fun k n => ld_pq11 _ k n) x _ ?_ ?_ ?_) <;> blk_simp [idx t] <;> try omega
  case piece5 =>
    refine (chunk_at m c hx t 10 _ _ (fun r n => chunk10 ..) (fun k n => ld_pq10 _ k n) x _ ?_ ?_ ?_) <;> blk_simp [idx t] <;> try omega
  case piece6 =>
    refine (chunk_at m c hx t 9 _ _ (fun r n => chunk9 ..) (fun k n => ld_pq9 _ k n) x _ ?_ ?_ ?_) <;> blk_simp [idx t] <;> try omega
  case piece7 =>
    refine (chunk_at m c hx t 8 _ _ (fun r n => chunk8 ..) (fun k n => ld_pq8 _ k n) x _ ?_ ?_ ?_) <;> blk_simp [idx t] <;> try omega
  case piece8 =>
    refine (chunk_at m c hx t 7 _ _ (fun r n => chunk7 ..) (fun k n => ld_pq7 _ k n) x _ ?_ ?_ ?_) <;> blk_simp [idx t] <;> try omega
  case piece9 =>
    refine (chunk_at m c hx t 6 _ _ (fun r n => chunk6 ..) (fun k n => ld_pq6 _ k n) x _ ?_ ?_ ?_) <;> blk_simp [idx t] <;> try omega
  case piece10 =>
    refine (chunk_at m c hx t 5 _ _ (fun r n => chunk5 ..) (fun k n => ld_pq5 _ k n) x _ ?_ ?_ ?_) <;> blk_simp [idx t] <;> try omega
  case piece11 =>
    refine (chunk_at m c hx t 4 _ _ (fun r n => chunk4 ..) (fun k n => ld_pq4 _ k n) x _ ?_ ?_ ?_) <;> blk_simp [idx t] <;> try omega
  case piece12 =>
    refine (chunk_at m c hx t 3 _ _ (fun r n => chunk3 ..) (fun k n => ld_pq3 _ k n) x _ ?_ ?_ ?_) <;> blk_simp [idx t] <;> try omega
  case piece13 =>
    refine (chunk_at m c hx t 2 _ _ (fun r n => chunk2 ..) (fun k n => ld_pq2 _ k n) x _ ?_ ?_ ?_) <;> blk_simp [idx t] <;> try omega
  case piece14 =>
    refine (chunk_at m c hx t 1 _ _ (fun r n => chunk1 ..) (fun k n => ld_pq1 _ k n) x _ ?_ ?_ ?_) <;> blk_simp [idx t] <;> try omega
  case piece15 =>
    refine (chunk_at m c hx t 0 _ _ (fun r n => chunk0 ..) (fun k n => (ld_pq0 _ k n).trans (congrArg (fun n => iblk m c 15 t (ix2 k n)) (Fin.ext (by simp)))) x _ ?_ ?_ ?_) <;> blk_simp [idx t] <;> try omega

end Cert.Merge

end
-- ==== Proof.Merge.RefRun.lean ====
/- The reference of the merge: its run. -/
module

public import proofs.«01_k».proof.Proof.Gen.Reference4Ideal.Run
public import proofs.«01_k».proof.Proof.Gen.Reference4Ideal.Read
public import Idealize.ShloMosaic.Lib.Quiescent
public import Idealize.ShloMosaic.Lib.Claim

@[expose] public section

set_option maxRecDepth 16384

noncomputable section

namespace Cert.Merge.Ref

open Cert.Reference4Ideal Cert.Reference4Ideal.Gen Cert.Reference4Ideal.Read Idealize.ShloMosaic Idealize.ShloMosaic.TcCoe
open Idealize.SL.Sem

/-- The reference's run leaves the three results and every argument as it was. -/
theorem run (m : (ℓ : Loc nD τ sig) → Buf (Elt Ideal) ℓ) (g : Dev nD → PrngReg)
    (x0 : Dev nD → FVec Ideal S4096x1024 .f32)
    (x1 : Dev nD → FVec Ideal S4096x512 .f32)
    (x2 : Dev nD → FVec Ideal S4096x1024 .bf16)
    (x3 : Dev nD → FVec Ideal S4096x512 .bf16)
    (x4 : Dev nD → FVec Ideal S4096x3072 .f32)
    (x5 : Dev nD → FVec Ideal S1x256x512 .bf16)
    (x6 : Dev nD → FVec Ideal S1x256x512 .bf16)
    (x7 : Dev nD → FVec Ideal S4x128x128 .f32)
    (x8 : Dev nD → FVec Ideal S512 .f32)
    (x9 : Dev nD → FVec Ideal S512x1024 .f32)
    (x10 : Dev nD → FVec Ideal S1024x1024 .f32)
    (x11 : Dev nD → FVec Ideal S512x1024 .f32)
    (x12 : Dev nD → FVec Ideal S1024x1024 .f32)
    (x13 : Dev nD → FVec Ideal S1024 .f32)
    (x14 : Dev nD → FVec Ideal S1024x2048 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (h3 : ∀ c : Dev nD, m ((c.tc : Thread nD τ).loc main_arg3) = x3 c)
    (h4 : ∀ c : Dev nD, m ((c.tc : Thread nD τ).loc main_arg4) = x4 c)
    (h5 : ∀ c : Dev nD, m ((c.tc : Thread nD τ).loc main_arg5) = x5 c)
    (h6 : ∀ c : Dev nD, m ((c.tc : Thread nD τ).loc main_arg6) = x6 c)
    (h7 : ∀ c : Dev nD, m ((c.tc : Thread nD τ).loc main_arg7) = x7 c)
    (h8 : ∀ c : Dev nD, m ((c.tc : Thread nD τ).loc main_arg8) = x8 c)
    (h9 : ∀ c : Dev nD, m ((c.tc : Thread nD τ).loc main_arg9) = x9 c)
    (h10 : ∀ c : Dev nD, m ((c.tc : Thread nD τ).loc main_arg10) = x10 c)
    (h11 : ∀ c : Dev nD, m ((c.tc : Thread nD τ).loc main_arg11) = x11 c)
    (h12 : ∀ c : Dev nD, m ((c.tc : Thread nD τ).loc main_arg12) = x12 c)
    (h13 : ∀ c : Dev nD, m ((c.tc : Thread nD τ).loc main_arg13) = x13 c)
    (h14 : ∀ c : Dev nD, m ((c.tc : Thread nD τ).loc main_arg14) = x14 c) :
    θ_run (defs (F := Ideal)) (onTc (τ := τ) (main (F := Ideal))) ⟨m, fun _ => 0, g⟩ fun r => ∀ c : Dev nD,
      r.2.mem ((c.tc : Thread nD τ).loc main_v114) = val_main_v114 (F := Ideal) (x0 c) (x1 c) (x2 c) (x3 c) (x4 c) (x5 c) (x6 c) (x7 c) (x8 c) (x9 c) (x10 c) (x11 c) (x12 c)
      ∧ r.2.mem ((c.tc : Thread nD τ).loc main_v127) = val_main_v127 (F := Ideal) (x0 c) (x1 c) (x2 c) (x3 c) (x4 c) (x5 c) (x6 c) (x7 c) (x8 c) (x9 c) (x10 c) (x11 c) (x12 c) (x13 c)
      ∧ r.2.mem ((c.tc : Thread nD τ).loc main_v131) = val_main_v131 (F := Ideal) (x0 c) (x1 c) (x2 c) (x3 c) (x4 c) (x5 c) (x6 c) (x7 c) (x8 c) (x9 c) (x10 c) (x11 c) (x12 c) (x13 c) (x14 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine θ_run_mono (Cert.Reference4Ideal.Value.run m g) fun r h c => ?_
  obtain ⟨a, b, d, k⟩ := h c
  refine ⟨a.trans ?_, b.trans ?_, d.trans ?_, k⟩ <;> rw [← h0 c, ← h1 c, ← h2 c, ← h3 c, ← h4 c, ← h5 c, ← h6 c, ← h7 c, ← h8 c, ← h9 c, ← h10 c, ← h11 c, ← h12 c]
  · rfl
  · rw [← h13 c]; rfl
  · rw [← h13 c, ← h14 c]; rfl

/-- The reference runs, its arguments unchanged and no semaphore counting. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0 :=
  θ_run_mono (Cert.Reference4Ideal.Value.run m g) fun r h =>
    ⟨fun c => (h c).2.2.2, sem_eq_zero_of_no_sems (by decide) r.2⟩

end Cert.Merge.Ref

end
-- ==== Proof.Merge.Finite.lean ====
/- The merge's precondition: the pooling branch's input has no infinite entry. -/
module

public import proofs.«01_k».proof.Pre_pool_input_finite
public import Idealize.ShloMosaic.Lib.ReduceAll
public import Idealize.ShloMosaic.Lib.KernelVsHost

@[expose] public section

set_option maxRecDepth 16384

noncomputable section

namespace Cert.Merge.Finite

open Cert.Pre_pool_input_finite Idealize.ShloMosaic

theorem facts : Cert.Pre_pool_input_finite.Facts where
  bcast_S_S4096x512 := by decide
  reducesTo_S4096x512_S_d0_1 := by decide
  h_S_ := by decide

/-- A value whose magnitude is below +∞ is neither infinity. -/
theorem finite_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  refine ⟨?_, ?_⟩ <;> rintro rfl <;> simp at h

/-- What the precondition says of the branch's input. -/
theorem of_pre [Cert.Pre_pool_input_finite.Facts] (a0 : FVec Ideal S4096x1024 .f32) (a1 : FVec Ideal S4096x512 .f32) (a2 : FVec Ideal S4096x1024 .bf16) (a3 : FVec Ideal S4096x512 .bf16) (a4 : FVec Ideal S4096x3072 .f32) (a5 : FVec Ideal S1x256x512 .bf16) (a6 : FVec Ideal S1x256x512 .bf16) (a7 : FVec Ideal S4x128x128 .f32) (a8 : FVec Ideal S512 .f32) (a9 : FVec Ideal S512x1024 .f32) (a10 : FVec Ideal S1024x1024 .f32) (a11 : FVec Ideal S512x1024 .f32) (a12 : FVec Ideal S1024x1024 .f32) (a13 : FVec Ideal S1024 .f32) (a14 : FVec Ideal S1024x2048 .f32)
    (h : Cert.Pre_pool_input_finite.fn (F := Ideal) a0 a1 a2 a3 a4 a5 a6 a7 a8 a9 a10 a11 a12 a13 a14 = fun _ => 1#1) (i : S4096x512.Idx) : a1 i ≠ ⊤ ∧ a1 i ≠ ⊥ := by
  have : Subsingleton S_.Idx := ⟨fun a b => funext fun k => k.elim0⟩
  exact finite_of _ (Host.reduce_andi_all _ _ _ _ (fun k => k.elim0) (congrFun h _) i)

end Cert.Merge.Finite

end
-- ==== Proof.Finish.Run.lean ====
/- The two calls of the last normalisation run: their result is the second call's output array. -/
module

public import proofs.«01_k».proof.Proof.Gen.Kernel5Ideal.Frame
public import Idealize.ShloMosaic.PureOps.Ideal.Laws

@[expose] public section

set_option maxRecDepth 16384

noncomputable section

namespace Cert.Finish

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The machine's propositions. -/
abbrev Prp := sProp (MT nD τ sig Unit (Elt Ideal) ℕ (UR sig nD τ) ℕ)

set_option backward.isDefEq.respectTransparency.types false in
/-- Every run ends with the result at what the second call's write-backs leave, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = W4 m g c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Pipeline.θ_run_regions_kit_sems (pcfgs (F := Ideal)) adm (pdats m g) () cellOf_inj emb₁ defs₀ 𝒱₀ L lv m g main (segs m g)
    (fun c Q => by rw [main_run m g c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have he : (BI.emp : Prp) ⊢ bigSep Finset.univ (fun _ : Dev nD => (BI.emp : Prp)) := by rw [BI.bigSep_emp_const]
      have ho : (ownU (initOf (Pipeline.cells cfgs cellOf_inj) (Pipeline.launchToks cfgs cellOf_inj)) : Prp)
          ⊢ BI.own (emb₁ (initOf (Pipeline.cells cfgs cellOf_inj) (Pipeline.launchToks cfgs cellOf_inj))) := .rfl
      iintro H
      imodintro
      isplitl [H]
      · iapply ho
        iexact H
      iapply he
      iempintro)
    (T₀ := fun c => iprop(StableHlo.held (c : Thread nD τ) (Pipeline.ucRefs τ sig) (W0 m g c) ∗ R c)) (Tₙ := Tₙ m g)
    (hch := ⟨fun _ => .rfl, fun _ => .rfl, fun _ => .rfl, fun _ => .rfl, fun _ => .rfl⟩)
    (hinit := by
      refine Pipeline.initEach L lv fun c => ?_
      have hb : (unscopedBufs c (fun b => m ((c : Thread nD τ).loc b)) : Prp) = StableHlo.held (c : Thread nD τ) (Pipeline.ucRefs τ sig) (W0 m g c) :=
        Pipeline.unscopedBufs_held c (W0 m g c)
      rw [hb]
      iintro ⟨⟨Hb, -, Ho, -, Hp, -⟩, -⟩
      imodintro
      isplitl [Hb]
      · iexact Hb
      isplitl [Hp]
      · iexists _
        iexact Hp
      iexists ∅
      iexact Ho)
    (QY := fun c s => ∀ b ∈ Pipeline.ucRefs τ sig, s.mem (((c : Thread nD τ)).1, b) = W4 m g c b)
    (hfin := fun c s => by
      iintro ⟨⟨Hb, -⟩, HS⟩
      unfold StableHlo.held
      imodintro
      iapply (pointsTo_read_all (Pipeline.ucRefs τ sig) (fun b => (((c : Thread nD τ)).1, b)) (W4 m g c) s)
      isplitl [Hb] <;> iassumption)
    (hQ := fun s h _ c =>
      ⟨h c _ (mem_uc main_v3 (by decide)),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c)⟩)

end Cert.Finish

end
-- ==== Proof.Finish.Ref.lean ====
/- The reference of the last normalisation: what its result holds, and its run. -/
module

public import proofs.«01_k».proof.Proof.Gen.Reference5Ideal.Run
public import proofs.«01_k».proof.Proof.Gen.Reference5Ideal.Read
public import proofs.«01_k».proof.Proof.Inproj.Norm
public import Idealize.ShloMosaic.Lib.Pointwise
public import Idealize.ShloMosaic.Lib.Quiescent
public import Idealize.ShloMosaic.Lib.Claim

@[expose] public section

set_option maxRecDepth 16384

noncomputable section

namespace Cert.Finish.Ref

open Cert.Reference5Ideal Cert.Reference5Ideal.Read Idealize.ShloMosaic Idealize.ShloMosaic.TcCoe Idealize.SL.Sem

/-- The two halves joined: a row of the first half. -/
theorem low (x1 x2 : FVec Ideal S2048x1024 .f32) (R : Fin 4096) (r : Fin 2048) (h : (R : ℕ) = r) (k : Fin 1024) :
    val_main_v0 (F := Ideal) x1 x2 (ix2 R k) = x1 (ix2 r k) := by
  unfold val_main_v0
  refine concatenate_pair_apply_left (t := S4096x1024) (s₁ := S2048x1024) (s₂ := S2048x1024) 0 _ _ _ (ix2 R k) rfl (ix2 r k) fun b => ?_
  match b with
  | ⟨0, _⟩ => exact h.symm
  | ⟨1, _⟩ => rfl

/-- The two halves joined: a row of the second half. -/
theorem high (x1 x2 : FVec Ideal S2048x1024 .f32) (R : Fin 4096) (r : Fin 2048) (h : (R : ℕ) = 2048 + r) (k : Fin 1024) :
    val_main_v0 (F := Ideal) x1 x2 (ix2 R k) = x2 (ix2 r k) := by
  unfold val_main_v0
  refine concatenate_pair_apply_right (t := S4096x1024) (s₁ := S2048x1024) (s₂ := S2048x1024) 0 _ _ _ (ix2 R k) rfl rfl (ix2 r k) ?_ ?_
  · intro b hb
    match b, hb with
    | ⟨0, _⟩, hb => exact absurd rfl hb
    | ⟨1, _⟩, _ => rfl
  · exact (Nat.add_comm _ _).trans h.symm

/-- The result at a row, from that row of the joined halves. -/
theorem norm_at (x0 : FVec Ideal S4096x1024 .f32) (x1 x2 : FVec Ideal S2048x1024 .f32) (x3 : FVec Ideal S1024 .f32) (R : Fin 4096) (C : Fin 1024) :
    val_main_v14 (F := Ideal) x0 x1 x2 x3 (ix2 R C)
      = Cert.Inproj.norm (fun j => x0 (ix2 R j) + val_main_v0 (F := Ideal) x1 x2 (ix2 R j)) (fun j => x3 (ix1 j)) C := by
  unfold val_main_v14 val_main_v11 val_main_v10 val_main_v9 val_main_v8 val_main_v6 val_main_v4 val_main_v3 val_main_v2 val_main_v1
  generalize val_main_v0 (F := Ideal) x1 x2 = y
  pointwise [val_main_v13, val_main_v12, val_main_v7, val_main_v5, val_main_cst, val_main_cst_0, val_main_cst_1]
  rfl

/-- The reference's result is its formula over any arrays its arguments equal. -/
theorem run (m : (ℓ : Loc nD τ sig) → Buf (Elt Ideal) ℓ) (g : Dev nD → PrngReg) (x0 : Dev nD → FVec Ideal S4096x1024 .f32)
    (x1 x2 : Dev nD → FVec Ideal S2048x1024 .f32) (x3 : Dev nD → FVec Ideal S1024 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (h3 : ∀ c : Dev nD, m ((c.tc : Thread nD τ).loc main_arg3) = x3 c) :
    θ_run (defs (F := Ideal)) (onTc (τ := τ) (main (F := Ideal))) ⟨m, fun _ => 0, g⟩ fun r => ∀ c : Dev nD,
      r.2.mem ((c.tc : Thread nD τ).loc main_v14) = val_main_v14 (F := Ideal) (x0 c) (x1 c) (x2 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (Cert.Reference5Ideal.Value.run m g) fun r h c => ?_
  obtain ⟨a, k⟩ := h c
  refine ⟨a.trans ?_, k⟩
  rw [← h0 c, ← h1 c, ← h2 c, ← h3 c]
  rfl

/-- The reference runs, its arguments unchanged and no semaphore counting. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_mono (Cert.Reference5Ideal.Value.run m g) fun r h =>
    ⟨fun c => (h c).2, sem_eq_zero_of_no_sems (by decide) r.2⟩

end Cert.Finish.Ref

end
-- ==== Proof.Finish.Final.lean ====
/- The last normalisation's result: the first call leaves the reference's first half, the second call the rest. -/
module

public import proofs.«01_k».proof.Proof.Gen.Kernel5Ideal.Frame
public import proofs.«01_k».proof.Proof.Finish.Ref
public import Idealize.ShloMosaic.Lib.Pipeline.ValueKit
public import Idealize.ShloMosaic.Lib.Pointwise
public import Idealize.ShloMosaic.Lib.Claim

@[expose] public section

set_option maxRecDepth 16384

noncomputable section

namespace Cert.Finish

open Cert.Kernel5Ideal Cert.Kernel5Ideal.Gen Idealize.ShloMosaic Idealize.ShloMosaic.TcCoe
open Idealize.ShloMosaic.Pipeline (Dat)

/-- The blocks of a grid point of the first call. -/
theorem idx0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The blocks of a grid point of the second call. -/
theorem idx1 : ∀ t : Fin cfg1.N, win1_0.index t = ![8 + t.val, 0] ∧ win1_1.index t = ![t.val, 0] ∧ win1_2.index t = ![0, 0] ∧ win1_3.index t = ![8 + t.val, 0] :=
  (by decide +kernel : ∀ t : Fin grid1.N, _)

/-- A tile's rows normalised. -/
theorem pay0 (x y : FVec Ideal S256x1024 .f32) (g : FVec Ideal S1x1024 .f32) (r : Fin 256) (k : Fin 1024) :
    k0_pay1 (F := Ideal) x y g (ix2 r k)
      = Cert.Inproj.norm (fun j => x (ix2 r j) + y (ix2 r j)) (fun j => g (ix2 0 j)) k := by
  pointwise [k0_pay1]
  rfl

theorem pay1 (x y : FVec Ideal S256x1024 .f32) (g : FVec Ideal S1x1024 .f32) (r : Fin 256) (k : Fin 1024) :
    k1_pay1 (F := Ideal) x y g (ix2 r k)
      = Cert.Inproj.norm (fun j => x (ix2 r j) + y (ix2 r j)) (fun j => g (ix2 0 j)) k := by
  pointwise [k1_pay1]
  rfl

variable (m : (ℓ : Loc nD τ sig) → Buf (Elt Ideal) ℓ) (g : Dev nD → PrngReg)

/-- The arguments of a device. -/
abbrev A0 (c : Dev nD) : FVec Ideal Cert.Reference5Ideal.S4096x1024 .f32 := m ((c : Thread nD τ).loc main_arg0)
abbrev A1 (c : Dev nD) : FVec Ideal Cert.Reference5Ideal.S2048x1024 .f32 := m ((c : Thread nD τ).loc main_arg1)
abbrev A2 (c : Dev nD) : FVec Ideal Cert.Reference5Ideal.S2048x1024 .f32 := m ((c : Thread nD τ).loc main_arg2)
abbrev A3 (c : Dev nD) : FVec Ideal Cert.Reference5Ideal.S1024 .f32 := m ((c : Thread nD τ).loc main_arg3)

/-- The reference's result. -/
abbrev G (c : Dev nD) : FVec Ideal S4096x1024 .f32 :=
  Cert.Reference5Ideal.Read.val_main_v14 (F := Ideal) (A0 m c) (A1 m c) (A2 m c) (A3 m c)

/-! The buffers that the two calls find. -/

theorem v1_v1 (c : Dev nD) (i : S4096x1024.Idx) : V1 m g c main_v1 i = A0 m c i := by
  show StableHlo.after hostOps0 (W0 m g c) (Proc.devRef .tc main_v1) i = _
  entry_read
  rfl

theorem v1_v0 (c : Dev nD) (k : Fin 1024) : V1 m g c main_v0 (ix2 0 k) = A3 m c (ix1 k) := by
  show StableHlo.after hostOps0 (W0 m g c) (Proc.devRef .tc main_v0) (ix2 0 k) = _
  entry_read
  pointwise

theorem v3_v1 (c : Dev nD) : V3 m g c main_v1 = W2 m g c (Proc.devRef .tc main_v1) :=
  W3_of m g c main_v1 (by decide)

theorem v3_v3 (c : Dev nD) : V3 m g c main_v3 = W2 m g c (Proc.devRef .tc main_v1) := by
  show StableHlo.after hostOps1 (W2 m g c) (Proc.devRef .tc main_v3) = _
  entry_read
  rfl

theorem v3_v2 (c : Dev nD) (k : Fin 1024) : V3 m g c main_v2 (ix2 0 k) = A3 m c (ix1 k) := by
  have h : W2 m g c (Proc.devRef .tc main_arg3) = A3 m c := W2_args m g c main_arg3 (by decide)
  show StableHlo.after hostOps1 (W2 m g c) (Proc.devRef .tc main_v2) (ix2 0 k) = _
  entry_read
  rw [h]
  pointwise

/-! The blocks that a tile reads. -/

section Blocks
variable (V : (c : Dev nD) → (b : Ref sig .tc) → Buf (Elt Ideal) ((c : Thread nD τ).loc b)) (c : Dev nD)

theorem blk0_0 (t : Fin cfg0.N) (r : Fin 256) (k : Fin 1024) (R : Fin 4096) (h : (R : ℕ) = t.val * 256 + r) :
    iblk0 V c 0 t (ix2 r k) = V c main_arg0 (ix2 R k) := by
  blk_point [iblk0, idx0 t, h]

theorem blk0_1 (t : Fin cfg0.N) (r : Fin 256) (k : Fin 1024) (R : Fin 2048) (h : (R : ℕ) = t.val * 256 + r) :
    iblk0 V c 1 t (ix2 r k) = V c main_arg1 (ix2 R k) := by
  blk_point [iblk0, idx0 t, h]

theorem blk0_2 (t : Fin cfg0.N) (k : Fin 1024) : iblk0 V c 2 t (ix2 0 k) = V c main_v0 (ix2 0 k) := by
  blk_point [iblk0, idx0 t]

theorem blk1_0 (t : Fin cfg1.N) (r : Fin 256) (k : Fin 1024) (R : Fin 4096) (h : (R : ℕ) = (8 + t.val) * 256 + r) :
    iblk1 V c 0 t (ix2 r k) = V c main_v1 (ix2 R k) := by
  blk_point [iblk1, idx1 t, h]

theorem blk1_1 (t : Fin cfg1.N) (r : Fin 256) (k : Fin 1024) (R : Fin 2048) (h : (R : ℕ) = t.val * 256 + r) :
    iblk1 V c 1 t (ix2 r k) = V c main_arg2 (ix2 R k) := by
  blk_point [iblk1, idx1 t, h]

theorem blk1_2 (t : Fin cfg1.N) (k : Fin 1024) : iblk1 V c 2 t (ix2 0 k) = V c main_v2 (ix2 0 k) := by
  blk_point [iblk1, idx1 t]

end Blocks

/-- What a tile of the first call stores. -/
theorem tile0 (c : Dev nD) (t : Fin cfg0.N) (y : S256x1024.Idx) (j : S4096x1024.Idx)
    (h0 : (j 0 : ℕ) = t.val * 256 + y 0) (h1 : (j 1 : ℕ) = y 1) :
    k0_pay1 (F := Ideal) (iblk0 (V1 m g) c 0 t) (iblk0 (V1 m g) c 1 t) (iblk0 (V1 m g) c 2 t) y = G m c j := by
  idx_vars y
  idx_vars j
  have hN : t.val < 8 := t.isLt
  have hy : (y0 : ℕ) < 256 := y0.isLt
  obtain rfl : j1 = y1 := Fin.ext h1
  have hr : (j0 : ℕ) = t.val * 256 + y0 := h0
  have ha0 : V1 m g c main_arg0 = A0 m c := W1_args m g c main_arg0 (by decide)
  have ha1 : V1 m g c main_arg1 = A1 m c := W1_args m g c main_arg1 (by decide)
  refine (pay0 _ _ _ y0 j1).trans (Eq.trans ?_ (Ref.norm_at _ _ _ _ j0 j1).symm)
  refine congrArg₂ (Cert.Inproj.norm · · j1) (funext fun k => ?_) (funext fun k => ?_)
  · refine congrArg₂ (· + ·) ((blk0_0 _ c t y0 k j0 hr).trans (congrFun ha0 _)) ?_
    exact ((blk0_1 _ c t y0 k ⟨j0, by omega⟩ hr).trans (congrFun ha1 _)).trans (Ref.low _ _ j0 ⟨j0, by omega⟩ rfl k).symm
  · exact (blk0_2 _ c t k).trans (v1_v0 m g c k)

/-- The rows that the first call writes are the reference's; the others are still the input's. -/
theorem half (c : Dev nD) (R : Fin 4096) (k : Fin 1024) : W2 m g c (Proc.devRef .tc main_v1) (ix2 R k)
    = if (R : ℕ) < 2048 then G m c (ix2 R k) else A0 m c (ix2 R k) := by
  have h : (dat0 (V1 m g) c).arrAt 3 cfg0.N = fun i : S4096x1024.Idx => if (i 0 : ℕ) < 2048 then G m c i else V1 m g c main_v1 i := by
    refine (dat0 (V1 m g) c).arrAt_eq_of_coversWhere 3 (G m c) (P := fun i : S4096x1024.Idx => (i 0 : ℕ) < 2048) (fun β => β (0 : Fin 2) < 8) (by decide +kernel) (fun t _ y => ?_) (fun j => ?_)
    · blk_simp
      rw [after0_3]
      unfold out0_3
      frame_out
      refine tile0 m g c t y _ ?_ ?_ <;> blk_simp [idx0 t] <;> omega
    · blk_simp [Pipeline.Window.cell_apply]
      omega
  refine (congrFun ((W2_arr m g c 3).trans h) (ix2 R k)).trans ?_
  exact if_congr Iff.rfl rfl (v1_v1 m g c _)

/-- What a tile of the second call stores. -/
theorem tile1 (c : Dev nD) (t : Fin cfg1.N) (y : S256x1024.Idx) (j : S4096x1024.Idx)
    (h0 : (j 0 : ℕ) = (8 + t.val) * 256 + y 0) (h1 : (j 1 : ℕ) = y 1) :
    k1_pay1 (F := Ideal) (iblk1 (V3 m g) c 0 t) (iblk1 (V3 m g) c 1 t) (iblk1 (V3 m g) c 2 t) y = G m c j := by
  idx_vars y
  idx_vars j
  have hN : t.val < 8 := t.isLt
  have hy : (y0 : ℕ) < 256 := y0.isLt
  obtain rfl : j1 = y1 := Fin.ext h1
  have hr : (j0 : ℕ) = (8 + t.val) * 256 + y0 := h0
  have ha2 : V3 m g c main_arg2 = A2 m c := W3_args m g c main_arg2 (by decide)
  refine (pay1 _ _ _ y0 j1).trans (Eq.trans ?_ (Ref.norm_at _ _ _ _ j0 j1).symm)
  refine congrArg₂ (Cert.Inproj.norm · · j1) (funext fun k => ?_) (funext fun k => ?_)
  · refine congrArg₂ (· + ·) ((blk1_0 _ c t y0 k j0 hr).trans ((congrFun (v3_v1 m g c) _).trans ((half m g c j0 k).trans (if_neg (by omega))))) ?_
    exact ((blk1_1 _ c t y0 k ⟨t.val * 256 + y0, by omega⟩ rfl).trans (congrFun ha2 _)).trans
      (Ref.high _ _ j0 ⟨t.val * 256 + y0, by omega⟩ (by show (j0 : ℕ) = 2048 + (t.val * 256 + y0); omega) k).symm
  · exact (blk1_2 _ c t k).trans (v3_v2 m g c k)

/-- The result whole. -/
theorem final (c : Dev nD) : W4 m g c (Proc.devRef .tc main_v3) = G m c := by
  refine (W4_arr m g c 3).trans ?_
  refine (dat1 (V3 m g) c).arrAt_eq_of_coversWhere_of_agree 3 (G m c) (fun β => 8 ≤ β (0 : Fin 2)) (by decide +kernel) (fun t _ y => ?_) (fun j hj => ?_)
  · blk_simp
    rw [after1_3]
    unfold out1_3
    frame_out
    refine tile1 m g c t y _ ?_ ?_ <;> blk_simp [idx1 t] <;> omega
  · blk_simp [Pipeline.Window.cell_apply] at hj
    have hl : (j 0 : ℕ) < 2048 := by omega
    idx_vars j
    refine (congrFun (v3_v3 m g c) (ix2 j0 j1)).trans ?_
    exact (half m g c j0 j1).trans (if_pos hl)

end Cert.Finish

end
-- ==== Proof.lean ====
/- The claims about the attention, the input projection, the memory's keys and values, the merge of the branches and the
   last normalisation: the programs end with every argument unchanged and every semaphore at zero, naming the attention's mask preserves its
   kernel, and every output is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Attn.Final
public import proofs.«01_k».proof.Proof.Attn.RefRun
public import proofs.«01_k».proof.Proof.Inproj.Final
public import proofs.«01_k».proof.Proof.Memkv.Final
public import proofs.«01_k».proof.Proof.Merge.Final
public import proofs.«01_k».proof.Proof.Merge.RefRun
public import proofs.«01_k».proof.Proof.Merge.Finite
public import proofs.«01_k».proof.Proof.Finish.Run
public import proofs.«01_k».proof.Proof.Finish.Final
public import Idealize.ShloMosaic.Adequacy
public import Idealize.ShloMosaic.Init

@[expose] public section

noncomputable section

namespace Cert.Proof

open Idealize.ShloMosaic Idealize.SL.Sem Cert.Kernel

/-- The attention. -/
theorem attn : algebraic_KernelIdeal_ReferenceIdeal := by
  intro m g m' g' _ hagree
  refine ⟨_, θ_run_mono (Cert.KernelIdeal.Value.run_blocks m g) fun r h c => h c,
    θ_run_mono (Cert.ReferenceIdeal.Value.run m' g') fun r h c => ⟨(h c).1.trans ?_, (h c).2⟩⟩
  have e := hagree c
  exact (Cert.Attn.Ref.result m' c _ _ _ _ _ e.1 e.2.1 e.2.2.1 e.2.2.2.1 e.2.2.2.2).trans (Cert.Attn.final m c).symm

/-- The input projection. -/
theorem inproj : algebraic_Kernel2Ideal_Reference2Ideal := by
  intro m g m' g' _ hagree
  refine ⟨_, _, _, _, _, _, θ_run_mono (Cert.Kernel2Ideal.Value.run_blocks m g) fun r h c => h c,
    θ_run_mono (Cert.Inproj.Ref.run m' g' (Cert.Inproj.A0 m) (Cert.Inproj.A1 m) (Cert.Inproj.A2 m) (fun c => (hagree c).1)
      (fun c => (hagree c).2.1) (fun c => (hagree c).2.2)) fun r h c => ?_⟩
  obtain ⟨h3, h4, h5, h6, h7, h8, k⟩ := h c
  exact ⟨h3.trans (Cert.Inproj.final3 m c).symm, h4.trans (Cert.Inproj.final4 m c).symm,
    h5.trans (Cert.Inproj.final5 m c).symm, h6.trans (Cert.Inproj.final6 m c).symm,
    h7.trans (Cert.Inproj.final7 m c).symm, h8.trans (Cert.Inproj.final8 m c).symm, k⟩

/-- The memory's keys and values. -/
theorem memkv : algebraic_Kernel3Ideal_Reference3Ideal := by
  intro m g m' g' _ hagree
  refine ⟨_, _, θ_run_mono (Cert.Kernel3Ideal.Value.run_blocks m g) fun r h c => h c,
    θ_run_mono (Cert.Memkv.Ref.run m' g' (Cert.Memkv.A0 m) (Cert.Memkv.A1 m) (Cert.Memkv.A2 m) (fun c => (hagree c).1)
      (fun c => (hagree c).2.1) (fun c => (hagree c).2.2)) fun r h c => ?_⟩
  obtain ⟨h3, h4, k⟩ := h c
  exact ⟨h3.trans (Cert.Memkv.final3 m c).symm, h4.trans (Cert.Memkv.final4 m c).symm, k⟩

/-- The merge of the branches. -/
theorem merge [Cert.Pre_pool_input_finite.Facts] : algebraic_Kernel4Ideal_Reference4Ideal_pre_pool_input_finite := by
  intro m g m' g' hpre hagree
  refine ⟨_, _, _, θ_run_mono (Cert.Kernel4Ideal.Value.run_blocks m g) fun r h c => h c,
    θ_run_mono (Cert.Merge.Ref.run m' g' (Cert.Merge.A0 m) (Cert.Merge.A1 m) (Cert.Merge.A2 m) (Cert.Merge.A3 m) (Cert.Merge.A4 m) (Cert.Merge.A5 m) (Cert.Merge.A6 m) (Cert.Merge.A7 m) (Cert.Merge.A8 m) (Cert.Merge.A9 m) (Cert.Merge.A10 m) (Cert.Merge.A11 m) (Cert.Merge.A12 m) (Cert.Merge.A13 m) (Cert.Merge.A14 m)
      (fun c => (hagree c).1) (fun c => (hagree c).2.1) (fun c => (hagree c).2.2.1) (fun c => (hagree c).2.2.2.1) (fun c => (hagree c).2.2.2.2.1) (fun c => (hagree c).2.2.2.2.2.1) (fun c => (hagree c).2.2.2.2.2.2.1) (fun c => (hagree c).2.2.2.2.2.2.2.1) (fun c => (hagree c).2.2.2.2.2.2.2.2.1) (fun c => (hagree c).2.2.2.2.2.2.2.2.2.1) (fun c => (hagree c).2.2.2.2.2.2.2.2.2.2.1) (fun c => (hagree c).2.2.2.2.2.2.2.2.2.2.2.1) (fun c => (hagree c).2.2.2.2.2.2.2.2.2.2.2.2.1) (fun c => (hagree c).2.2.2.2.2.2.2.2.2.2.2.2.2.1) (fun c => (hagree c).2.2.2.2.2.2.2.2.2.2.2.2.2.2)) fun r h c => ?_⟩
  obtain ⟨h16, h17, h18, k⟩ := h c
  have hx := Cert.Merge.Finite.of_pre _ _ _ _ _ _ _ _ _ _ _ _ _ _ _ (hpre c)
  exact ⟨h16.trans (Cert.Merge.final16 m c hx).symm, h17.trans (Cert.Merge.final17 m c hx).symm,
    h18.trans (Cert.Merge.final18 m c hx).symm, k⟩

/-- The last normalisation. -/
theorem finish : algebraic_Kernel5Ideal_Reference5Ideal := by
  intro m g m' g' _ hagree
  refine ⟨_, θ_run_mono (Cert.Finish.run m g) fun r h c => h c,
    θ_run_mono (Cert.Finish.Ref.run m' g' (Cert.Finish.A0 m) (Cert.Finish.A1 m) (Cert.Finish.A2 m) (Cert.Finish.A3 m) (fun c => (hagree c).1)
      (fun c => (hagree c).2.1) (fun c => (hagree c).2.2.1) (fun c => (hagree c).2.2.2)) fun r h c => ?_⟩
  exact ⟨(h c).1.trans (Cert.Finish.final m g c).symm, (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Merge.Finite.facts,
  fun m ρ _ => Cert.Kernel.Gen.frame m ρ, fun m ρ _ => Cert.KernelIdeal.Gen.frame m ρ, fun m ρ _ => Cert.Attn.Ref.frame m ρ,
  fun m ρ _ => Cert.Kernel2.Gen.frame m ρ, fun m ρ _ => Cert.Kernel2Ideal.Gen.frame m ρ, fun m ρ _ => Cert.Inproj.Ref.frame m ρ,
  fun m ρ _ => Cert.Kernel3.Gen.frame m ρ, fun m ρ _ => Cert.Kernel3Ideal.Gen.frame m ρ, fun m ρ _ => Cert.Memkv.Ref.frame m ρ,
  fun m ρ _ => Cert.Kernel4.Gen.frame m ρ, fun m ρ _ => Cert.Kernel4Ideal.Gen.frame m ρ, fun m ρ _ => Cert.Kernel4Ideal.Gen.frame m ρ,
  fun m ρ _ => Cert.Merge.Ref.frame m ρ, fun m ρ _ => Cert.Merge.Ref.frame m ρ,
  fun m ρ _ => Cert.Kernel5.Gen.frame m ρ, fun m ρ _ => Cert.Kernel5Ideal.Gen.frame m ρ, fun m ρ _ => Cert.Finish.Ref.frame m ρ,
  IdealRules.named_const.statement Cert.KernelIdeal.κ "mask" .f32 0xF149F2CA#32 ⊥ rfl, attn, trivial, inproj, trivial, memkv,
  trivial, @merge Cert.Merge.Finite.facts, trivial, finish⟩

end Cert.Proof

end
